-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S16x64x4096 : Shape := ⟨3, ![16, 64, 4096]⟩
abbrev S16x8x128 : Shape := ⟨3, ![16, 8, 128]⟩
abbrev S8x128 : Shape := ⟨2, ![8, 128]⟩
abbrev S8 : Shape := ⟨1, ![8]⟩
abbrev S7 : Shape := ⟨1, ![7]⟩
abbrev S15 : Shape := ⟨1, ![15]⟩
abbrev S_ : Shape := ⟨0, ![]⟩
abbrev S64x4096 : Shape := ⟨2, ![64, 4096]⟩
abbrev S1x64x4096 : Shape := ⟨3, ![1, 64, 4096]⟩
abbrev S1 : Shape := ⟨1, ![1]⟩
abbrev S64x512 : Shape := ⟨2, ![64, 512]⟩
abbrev S1x64x512 : Shape := ⟨3, ![1, 64, 512]⟩
abbrev S1x1x1 : Shape := ⟨3, ![1, 1, 1]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S256x4096, .bf16⟩
  | .hbm, ⟨1, _⟩ => ⟨S4096x512, .bf16⟩
  | .hbm, ⟨2, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .f32⟩
  | .local _ .vmem, ⟨3, _⟩ => ⟨S16x64x4096, .bf16⟩
  | .local _ .vmem, ⟨4, _⟩ => ⟨S16x64x4096, .bf16⟩
  | .local _ .vmem, ⟨5, _⟩ => ⟨S16x64x4096, .bf16⟩
  | .local _ .vmem, ⟨6, _⟩ => ⟨S16x64x4096, .bf16⟩
  | .local _ .vmem, ⟨7, _⟩ => ⟨S4096x512, .bf16⟩
  | .local _ .vmem, ⟨8, _⟩ => ⟨S16x8x128, .f32⟩
  | .local _ .vmem, ⟨9, _⟩ => ⟨S8x128, .f32⟩
  | _, _ => ⟨S256x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 153 → Bool
  | ⟨i, _⟩ => dmaSemScopedAt i

abbrev sig : RefSig :=
  (ofTc nBuf bufTy 1 153 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_38 : BitVec 32 := 1#32
  let v50 : BitVec 32 := Scalar.muli v24 c1_i32_38
  let v51 : BitVec 32 := Scalar.addi c0_i32_39 v50
  v51.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_48 : BitVec 32 := 1#32
  let v60 : BitVec 32 := Scalar.muli v13 c1_i32_48
  let v61 : BitVec 32 := Scalar.addi c0_i32_49 v60
  v61.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v70 : BitVec 32 := Scalar.muli v24 c1_i32_58
  let v71 : BitVec 32 := Scalar.addi c0_i32_59 v70
  v71.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_68 : BitVec 32 := 1#32
  let v80 : BitVec 32 := Scalar.muli v13 c1_i32_68
  let v81 : BitVec 32 := Scalar.addi c0_i32_69 v80
  v81.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_78 : BitVec 32 := 1#32
  let v90 : BitVec 32 := Scalar.muli v24 c1_i32_78
  let v91 : BitVec 32 := Scalar.addi c0_i32_79 v90
  v91.toNat
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_88 : BitVec 32 := 1#32
  let v100 : BitVec 32 := Scalar.muli v13 c1_i32_88
  let v101 : BitVec 32 := Scalar.addi c0_i32_89 v100
  v101.toNat
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_98 : BitVec 32 := 1#32
  let v110 : BitVec 32 := Scalar.muli v24 c1_i32_98
  let v111 : BitVec 32 := Scalar.addi c0_i32_99 v110
  v111.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v120 : BitVec 32 := Scalar.muli v13 c1_i32_108
  let v121 : BitVec 32 := Scalar.addi c0_i32_109 v120
  v121.toNat
def k0_off1 (d0 : Dev nD) (c0_i32_118 : BitVec 32) (c0_i32_130 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v135 : BitVec 32 := Scalar.addi v2 c0_i32_118
  let c16_i32_119 : BitVec 32 := 16#32
  let c0_i32_120 : BitVec 32 := 0#32
  let v136 : BitVec 1 := Scalar.cmpi .eq c16_i32_119 c0_i32_120
  let c1_i32_121 : BitVec 32 := 1#32
  let v137 : BitVec 32 := Scalar.select v136 c1_i32_121 c16_i32_119
  let v138 : BitVec 32 := Scalar.remsi v135 v137
  let c0_i32_123 : BitVec 32 := 0#32
  let v140 : BitVec 1 := Scalar.cmpi .slt v138 c0_i32_123
  let c0_i32_124 : BitVec 32 := 0#32
  let v141 : BitVec 1 := Scalar.cmpi .slt v137 c0_i32_124
  let v142 : BitVec 1 := Scalar.xori v140 v141
  let c0_i32_122 : BitVec 32 := 0#32
  let v139 : BitVec 1 := Scalar.cmpi .ne v138 c0_i32_122
  let v143 : BitVec 1 := Scalar.andi v142 v139
  let v144 : BitVec 32 := Scalar.addi v138 v137
  let v145 : BitVec 32 := Scalar.select v143 v144 v138
  let c256_i32 : BitVec 32 := 256#32
  let v150 : BitVec 32 := Scalar.muli v145 c256_i32
  let v151 : BitVec 32 := Scalar.addi v150 c0_i32_130
  let v152 : Index := Scalar.indexCast v151
  let c0_131 : Index := 0#32
  ![v152.toNat, 0]
def k0_dev11 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_194 : BitVec 32 := 1#32
  let v242 : BitVec 32 := Scalar.muli v24 c1_i32_194
  let v243 : BitVec 32 := Scalar.addi c0_i32_195 v242
  v243.toNat
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_214 : BitVec 32 := 1#32
  let v260 : BitVec 32 := Scalar.muli v13 c1_i32_214
  let v261 : BitVec 32 := Scalar.addi c0_i32_215 v260
  v261.toNat
def k0_dev13 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_234 : BitVec 32 := 1#32
  let v278 : BitVec 32 := Scalar.muli v24 c1_i32_234
  let v279 : BitVec 32 := Scalar.addi c0_i32_235 v278
  v279.toNat
def k0_dev14 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_254 : BitVec 32 := 1#32
  let v296 : BitVec 32 := Scalar.muli v13 c1_i32_254
  let v297 : BitVec 32 := Scalar.addi c0_i32_255 v296
  v297.toNat
def k0_dev15 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_274 : BitVec 32 := 1#32
  let v314 : BitVec 32 := Scalar.muli v24 c1_i32_274
  let v315 : BitVec 32 := Scalar.addi c0_i32_275 v314
  v315.toNat
def k0_dev16 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_294 : BitVec 32 := 1#32
  let v332 : BitVec 32 := Scalar.muli v13 c1_i32_294
  let v333 : BitVec 32 := Scalar.addi c0_i32_295 v332
  v333.toNat
def k0_dev17 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_314 : BitVec 32 := 1#32
  let v350 : BitVec 32 := Scalar.muli v24 c1_i32_314
  let v351 : BitVec 32 := Scalar.addi c0_i32_315 v350
  v351.toNat
def k0_dev18 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_334 : BitVec 32 := 1#32
  let v368 : BitVec 32 := Scalar.muli v13 c1_i32_334
  let v369 : BitVec 32 := Scalar.addi c0_i32_335 v368
  v369.toNat
def k0_dev19 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_487 : BitVec 32 := 1#32
  let v586 : BitVec 32 := Scalar.muli v24 c1_i32_487
  let v587 : BitVec 32 := Scalar.addi c0_i32_488 v586
  v587.toNat
def k0_dev20 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_506 : BitVec 32 := 1#32
  let v604 : BitVec 32 := Scalar.muli v13 c1_i32_506
  let v605 : BitVec 32 := Scalar.addi c0_i32_507 v604
  v605.toNat
def k0_dev21 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_526 : BitVec 32 := 1#32
  let v622 : BitVec 32 := Scalar.muli v24 c1_i32_526
  let v623 : BitVec 32 := Scalar.addi c0_i32_527 v622
  v623.toNat
def k0_dev22 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_546 : BitVec 32 := 1#32
  let v640 : BitVec 32 := Scalar.muli v13 c1_i32_546
  let v641 : BitVec 32 := Scalar.addi c0_i32_547 v640
  v641.toNat
def k0_dev23 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_566 : BitVec 32 := 1#32
  let v658 : BitVec 32 := Scalar.muli v24 c1_i32_566
  let v659 : BitVec 32 := Scalar.addi c0_i32_567 v658
  v659.toNat
def k0_dev24 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_586 : BitVec 32 := 1#32
  let v676 : BitVec 32 := Scalar.muli v13 c1_i32_586
  let v677 : BitVec 32 := Scalar.addi c0_i32_587 v676
  v677.toNat
def k0_dev25 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_606 : BitVec 32 := 1#32
  let v694 : BitVec 32 := Scalar.muli v24 c1_i32_606
  let v695 : BitVec 32 := Scalar.addi c0_i32_607 v694
  v695.toNat
def k0_dev26 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_626 : BitVec 32 := 1#32
  let v712 : BitVec 32 := Scalar.muli v13 c1_i32_626
  let v713 : BitVec 32 := Scalar.addi c0_i32_627 v712
  v713.toNat
def k0_dev27 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_779 : BitVec 32 := 1#32
  let v930 : BitVec 32 := Scalar.muli v24 c1_i32_779
  let v931 : BitVec 32 := Scalar.addi c0_i32_780 v930
  v931.toNat
def k0_dev28 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_798 : BitVec 32 := 1#32
  let v948 : BitVec 32 := Scalar.muli v13 c1_i32_798
  let v949 : BitVec 32 := Scalar.addi c0_i32_799 v948
  v949.toNat
def k0_dev29 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_818 : BitVec 32 := 1#32
  let v966 : BitVec 32 := Scalar.muli v24 c1_i32_818
  let v967 : BitVec 32 := Scalar.addi c0_i32_819 v966
  v967.toNat
def k0_dev30 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_838 : BitVec 32 := 1#32
  let v984 : BitVec 32 := Scalar.muli v13 c1_i32_838
  let v985 : BitVec 32 := Scalar.addi c0_i32_839 v984
  v985.toNat
def k0_dev31 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_858 : BitVec 32 := 1#32
  let v1002 : BitVec 32 := Scalar.muli v24 c1_i32_858
  let v1003 : BitVec 32 := Scalar.addi c0_i32_859 v1002
  v1003.toNat
def k0_dev32 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_878 : BitVec 32 := 1#32
  let v1020 : BitVec 32 := Scalar.muli v13 c1_i32_878
  let v1021 : BitVec 32 := Scalar.addi c0_i32_879 v1020
  v1021.toNat
def k0_dev33 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_898 : BitVec 32 := 1#32
  let v1038 : BitVec 32 := Scalar.muli v24 c1_i32_898
  let v1039 : BitVec 32 := Scalar.addi c0_i32_899 v1038
  v1039.toNat
def k0_dev34 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_918 : BitVec 32 := 1#32
  let v1056 : BitVec 32 := Scalar.muli v13 c1_i32_918
  let v1057 : BitVec 32 := Scalar.addi c0_i32_919 v1056
  v1057.toNat
def k0_dev35 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1071 : BitVec 32 := 1#32
  let v1274 : BitVec 32 := Scalar.muli v24 c1_i32_1071
  let v1275 : BitVec 32 := Scalar.addi c0_i32_1072 v1274
  v1275.toNat
def k0_dev36 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1090 : BitVec 32 := 1#32
  let v1292 : BitVec 32 := Scalar.muli v13 c1_i32_1090
  let v1293 : BitVec 32 := Scalar.addi c0_i32_1091 v1292
  v1293.toNat
def k0_dev37 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1110 : BitVec 32 := 1#32
  let v1310 : BitVec 32 := Scalar.muli v24 c1_i32_1110
  let v1311 : BitVec 32 := Scalar.addi c0_i32_1111 v1310
  v1311.toNat
def k0_dev38 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1130 : BitVec 32 := 1#32
  let v1328 : BitVec 32 := Scalar.muli v13 c1_i32_1130
  let v1329 : BitVec 32 := Scalar.addi c0_i32_1131 v1328
  v1329.toNat
def k0_dev39 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1150 : BitVec 32 := 1#32
  let v1346 : BitVec 32 := Scalar.muli v24 c1_i32_1150
  let v1347 : BitVec 32 := Scalar.addi c0_i32_1151 v1346
  v1347.toNat
def k0_dev40 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1170 : BitVec 32 := 1#32
  let v1364 : BitVec 32 := Scalar.muli v13 c1_i32_1170
  let v1365 : BitVec 32 := Scalar.addi c0_i32_1171 v1364
  v1365.toNat
def k0_dev41 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1190 : BitVec 32 := 1#32
  let v1382 : BitVec 32 := Scalar.muli v24 c1_i32_1190
  let v1383 : BitVec 32 := Scalar.addi c0_i32_1191 v1382
  v1383.toNat
def k0_dev42 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1210 : BitVec 32 := 1#32
  let v1400 : BitVec 32 := Scalar.muli v13 c1_i32_1210
  let v1401 : BitVec 32 := Scalar.addi c0_i32_1211 v1400
  v1401.toNat
def k0_dev43 (d0 : Dev nD) : Nat :=
  let c0_i32_1364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1363 : BitVec 32 := 1#32
  let v1618 : BitVec 32 := Scalar.muli v24 c1_i32_1363
  let v1619 : BitVec 32 := Scalar.addi c0_i32_1364 v1618
  v1619.toNat
def k0_dev44 (d0 : Dev nD) : Nat :=
  let c0_i32_1383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1382 : BitVec 32 := 1#32
  let v1636 : BitVec 32 := Scalar.muli v13 c1_i32_1382
  let v1637 : BitVec 32 := Scalar.addi c0_i32_1383 v1636
  v1637.toNat
def k0_dev45 (d0 : Dev nD) : Nat :=
  let c0_i32_1403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1402 : BitVec 32 := 1#32
  let v1654 : BitVec 32 := Scalar.muli v24 c1_i32_1402
  let v1655 : BitVec 32 := Scalar.addi c0_i32_1403 v1654
  v1655.toNat
def k0_dev46 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1422 : BitVec 32 := 1#32
  let v1672 : BitVec 32 := Scalar.muli v13 c1_i32_1422
  let v1673 : BitVec 32 := Scalar.addi c0_i32_1423 v1672
  v1673.toNat
def k0_dev47 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1442 : BitVec 32 := 1#32
  let v1690 : BitVec 32 := Scalar.muli v24 c1_i32_1442
  let v1691 : BitVec 32 := Scalar.addi c0_i32_1443 v1690
  v1691.toNat
def k0_dev48 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1462 : BitVec 32 := 1#32
  let v1708 : BitVec 32 := Scalar.muli v13 c1_i32_1462
  let v1709 : BitVec 32 := Scalar.addi c0_i32_1463 v1708
  v1709.toNat
def k0_dev49 (d0 : Dev nD) : Nat :=
  let c0_i32_1483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1482 : BitVec 32 := 1#32
  let v1726 : BitVec 32 := Scalar.muli v24 c1_i32_1482
  let v1727 : BitVec 32 := Scalar.addi c0_i32_1483 v1726
  v1727.toNat
def k0_dev50 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1502 : BitVec 32 := 1#32
  let v1744 : BitVec 32 := Scalar.muli v13 c1_i32_1502
  let v1745 : BitVec 32 := Scalar.addi c0_i32_1503 v1744
  v1745.toNat
def k0_dev51 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1655 : BitVec 32 := 1#32
  let v1962 : BitVec 32 := Scalar.muli v24 c1_i32_1655
  let v1963 : BitVec 32 := Scalar.addi c0_i32_1656 v1962
  v1963.toNat
def k0_dev52 (d0 : Dev nD) : Nat :=
  let c0_i32_1675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1674 : BitVec 32 := 1#32
  let v1980 : BitVec 32 := Scalar.muli v13 c1_i32_1674
  let v1981 : BitVec 32 := Scalar.addi c0_i32_1675 v1980
  v1981.toNat
def k0_dev53 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1694 : BitVec 32 := 1#32
  let v1998 : BitVec 32 := Scalar.muli v24 c1_i32_1694
  let v1999 : BitVec 32 := Scalar.addi c0_i32_1695 v1998
  v1999.toNat
def k0_dev54 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1714 : BitVec 32 := 1#32
  let v2016 : BitVec 32 := Scalar.muli v13 c1_i32_1714
  let v2017 : BitVec 32 := Scalar.addi c0_i32_1715 v2016
  v2017.toNat
def k0_dev55 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1734 : BitVec 32 := 1#32
  let v2034 : BitVec 32 := Scalar.muli v24 c1_i32_1734
  let v2035 : BitVec 32 := Scalar.addi c0_i32_1735 v2034
  v2035.toNat
def k0_dev56 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1754 : BitVec 32 := 1#32
  let v2052 : BitVec 32 := Scalar.muli v13 c1_i32_1754
  let v2053 : BitVec 32 := Scalar.addi c0_i32_1755 v2052
  v2053.toNat
def k0_dev57 (d0 : Dev nD) : Nat :=
  let c0_i32_1775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1774 : BitVec 32 := 1#32
  let v2070 : BitVec 32 := Scalar.muli v24 c1_i32_1774
  let v2071 : BitVec 32 := Scalar.addi c0_i32_1775 v2070
  v2071.toNat
def k0_dev58 (d0 : Dev nD) : Nat :=
  let c0_i32_1795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1794 : BitVec 32 := 1#32
  let v2088 : BitVec 32 := Scalar.muli v13 c1_i32_1794
  let v2089 : BitVec 32 := Scalar.addi c0_i32_1795 v2088
  v2089.toNat
def k0_dev59 (d0 : Dev nD) : Nat :=
  let c0_i32_1948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1947 : BitVec 32 := 1#32
  let v2306 : BitVec 32 := Scalar.muli v24 c1_i32_1947
  let v2307 : BitVec 32 := Scalar.addi c0_i32_1948 v2306
  v2307.toNat
def k0_dev60 (d0 : Dev nD) : Nat :=
  let c0_i32_1968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1967 : BitVec 32 := 1#32
  let v2324 : BitVec 32 := Scalar.muli v13 c1_i32_1967
  let v2325 : BitVec 32 := Scalar.addi c0_i32_1968 v2324
  v2325.toNat
def k0_dev61 (d0 : Dev nD) : Nat :=
  let c0_i32_2008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2007 : BitVec 32 := 1#32
  let v2358 : BitVec 32 := Scalar.muli v24 c1_i32_2007
  let v2359 : BitVec 32 := Scalar.addi c0_i32_2008 v2358
  v2359.toNat
def k0_dev62 (d0 : Dev nD) : Nat :=
  let c0_i32_2028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2027 : BitVec 32 := 1#32
  let v2376 : BitVec 32 := Scalar.muli v13 c1_i32_2027
  let v2377 : BitVec 32 := Scalar.addi c0_i32_2028 v2376
  v2377.toNat
def k0_dev63 (d0 : Dev nD) : Nat :=
  let c0_i32_2850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2839 : BitVec 32 := 1#32
  let v3102 : BitVec 32 := Scalar.addi v2 c1_i32_2839
  let c16_i32_2840 : BitVec 32 := 16#32
  let c0_i32_2841 : BitVec 32 := 0#32
  let v3103 : BitVec 1 := Scalar.cmpi .eq c16_i32_2840 c0_i32_2841
  let c1_i32_2842 : BitVec 32 := 1#32
  let v3104 : BitVec 32 := Scalar.select v3103 c1_i32_2842 c16_i32_2840
  let v3105 : BitVec 32 := Scalar.remsi v3102 v3104
  let c0_i32_2844 : BitVec 32 := 0#32
  let v3107 : BitVec 1 := Scalar.cmpi .slt v3105 c0_i32_2844
  let c0_i32_2845 : BitVec 32 := 0#32
  let v3108 : BitVec 1 := Scalar.cmpi .slt v3104 c0_i32_2845
  let v3109 : BitVec 1 := Scalar.xori v3107 v3108
  let c0_i32_2843 : BitVec 32 := 0#32
  let v3106 : BitVec 1 := Scalar.cmpi .ne v3105 c0_i32_2843
  let v3110 : BitVec 1 := Scalar.andi v3109 v3106
  let v3111 : BitVec 32 := Scalar.addi v3105 v3104
  let v3112 : BitVec 32 := Scalar.select v3110 v3111 v3105
  let c1_i32_2849 : BitVec 32 := 1#32
  let v3113 : BitVec 32 := Scalar.muli v3112 c1_i32_2849
  let v3114 : BitVec 32 := Scalar.addi c0_i32_2850 v3113
  v3114.toNat
def k0_dev64 (d0 : Dev nD) : Nat :=
  let c0_i32_2864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2853 : BitVec 32 := 2#32
  let v3121 : BitVec 32 := Scalar.addi v2 c2_i32_2853
  let c16_i32_2854 : BitVec 32 := 16#32
  let c0_i32_2855 : BitVec 32 := 0#32
  let v3122 : BitVec 1 := Scalar.cmpi .eq c16_i32_2854 c0_i32_2855
  let c1_i32_2856 : BitVec 32 := 1#32
  let v3123 : BitVec 32 := Scalar.select v3122 c1_i32_2856 c16_i32_2854
  let v3124 : BitVec 32 := Scalar.remsi v3121 v3123
  let c0_i32_2858 : BitVec 32 := 0#32
  let v3126 : BitVec 1 := Scalar.cmpi .slt v3124 c0_i32_2858
  let c0_i32_2859 : BitVec 32 := 0#32
  let v3127 : BitVec 1 := Scalar.cmpi .slt v3123 c0_i32_2859
  let v3128 : BitVec 1 := Scalar.xori v3126 v3127
  let c0_i32_2857 : BitVec 32 := 0#32
  let v3125 : BitVec 1 := Scalar.cmpi .ne v3124 c0_i32_2857
  let v3129 : BitVec 1 := Scalar.andi v3128 v3125
  let v3130 : BitVec 32 := Scalar.addi v3124 v3123
  let v3131 : BitVec 32 := Scalar.select v3129 v3130 v3124
  let c1_i32_2863 : BitVec 32 := 1#32
  let v3132 : BitVec 32 := Scalar.muli v3131 c1_i32_2863
  let v3133 : BitVec 32 := Scalar.addi c0_i32_2864 v3132
  v3133.toNat
def k0_dev65 (d0 : Dev nD) : Nat :=
  let c0_i32_2878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2867 : BitVec 32 := 3#32
  let v3140 : BitVec 32 := Scalar.addi v2 c3_i32_2867
  let c16_i32_2868 : BitVec 32 := 16#32
  let c0_i32_2869 : BitVec 32 := 0#32
  let v3141 : BitVec 1 := Scalar.cmpi .eq c16_i32_2868 c0_i32_2869
  let c1_i32_2870 : BitVec 32 := 1#32
  let v3142 : BitVec 32 := Scalar.select v3141 c1_i32_2870 c16_i32_2868
  let v3143 : BitVec 32 := Scalar.remsi v3140 v3142
  let c0_i32_2872 : BitVec 32 := 0#32
  let v3145 : BitVec 1 := Scalar.cmpi .slt v3143 c0_i32_2872
  let c0_i32_2873 : BitVec 32 := 0#32
  let v3146 : BitVec 1 := Scalar.cmpi .slt v3142 c0_i32_2873
  let v3147 : BitVec 1 := Scalar.xori v3145 v3146
  let c0_i32_2871 : BitVec 32 := 0#32
  let v3144 : BitVec 1 := Scalar.cmpi .ne v3143 c0_i32_2871
  let v3148 : BitVec 1 := Scalar.andi v3147 v3144
  let v3149 : BitVec 32 := Scalar.addi v3143 v3142
  let v3150 : BitVec 32 := Scalar.select v3148 v3149 v3143
  let c1_i32_2877 : BitVec 32 := 1#32
  let v3151 : BitVec 32 := Scalar.muli v3150 c1_i32_2877
  let v3152 : BitVec 32 := Scalar.addi c0_i32_2878 v3151
  v3152.toNat
def k0_dev66 (d0 : Dev nD) : Nat :=
  let c0_i32_2892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2881 : BitVec 32 := 4#32
  let v3159 : BitVec 32 := Scalar.addi v2 c4_i32_2881
  let c16_i32_2882 : BitVec 32 := 16#32
  let c0_i32_2883 : BitVec 32 := 0#32
  let v3160 : BitVec 1 := Scalar.cmpi .eq c16_i32_2882 c0_i32_2883
  let c1_i32_2884 : BitVec 32 := 1#32
  let v3161 : BitVec 32 := Scalar.select v3160 c1_i32_2884 c16_i32_2882
  let v3162 : BitVec 32 := Scalar.remsi v3159 v3161
  let c0_i32_2886 : BitVec 32 := 0#32
  let v3164 : BitVec 1 := Scalar.cmpi .slt v3162 c0_i32_2886
  let c0_i32_2887 : BitVec 32 := 0#32
  let v3165 : BitVec 1 := Scalar.cmpi .slt v3161 c0_i32_2887
  let v3166 : BitVec 1 := Scalar.xori v3164 v3165
  let c0_i32_2885 : BitVec 32 := 0#32
  let v3163 : BitVec 1 := Scalar.cmpi .ne v3162 c0_i32_2885
  let v3167 : BitVec 1 := Scalar.andi v3166 v3163
  let v3168 : BitVec 32 := Scalar.addi v3162 v3161
  let v3169 : BitVec 32 := Scalar.select v3167 v3168 v3162
  let c1_i32_2891 : BitVec 32 := 1#32
  let v3170 : BitVec 32 := Scalar.muli v3169 c1_i32_2891
  let v3171 : BitVec 32 := Scalar.addi c0_i32_2892 v3170
  v3171.toNat
def k0_dev67 (d0 : Dev nD) : Nat :=
  let c0_i32_2906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2895 : BitVec 32 := 5#32
  let v3178 : BitVec 32 := Scalar.addi v2 c5_i32_2895
  let c16_i32_2896 : BitVec 32 := 16#32
  let c0_i32_2897 : BitVec 32 := 0#32
  let v3179 : BitVec 1 := Scalar.cmpi .eq c16_i32_2896 c0_i32_2897
  let c1_i32_2898 : BitVec 32 := 1#32
  let v3180 : BitVec 32 := Scalar.select v3179 c1_i32_2898 c16_i32_2896
  let v3181 : BitVec 32 := Scalar.remsi v3178 v3180
  let c0_i32_2900 : BitVec 32 := 0#32
  let v3183 : BitVec 1 := Scalar.cmpi .slt v3181 c0_i32_2900
  let c0_i32_2901 : BitVec 32 := 0#32
  let v3184 : BitVec 1 := Scalar.cmpi .slt v3180 c0_i32_2901
  let v3185 : BitVec 1 := Scalar.xori v3183 v3184
  let c0_i32_2899 : BitVec 32 := 0#32
  let v3182 : BitVec 1 := Scalar.cmpi .ne v3181 c0_i32_2899
  let v3186 : BitVec 1 := Scalar.andi v3185 v3182
  let v3187 : BitVec 32 := Scalar.addi v3181 v3180
  let v3188 : BitVec 32 := Scalar.select v3186 v3187 v3181
  let c1_i32_2905 : BitVec 32 := 1#32
  let v3189 : BitVec 32 := Scalar.muli v3188 c1_i32_2905
  let v3190 : BitVec 32 := Scalar.addi c0_i32_2906 v3189
  v3190.toNat
def k0_dev68 (d0 : Dev nD) : Nat :=
  let c0_i32_2920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2909 : BitVec 32 := 6#32
  let v3197 : BitVec 32 := Scalar.addi v2 c6_i32_2909
  let c16_i32_2910 : BitVec 32 := 16#32
  let c0_i32_2911 : BitVec 32 := 0#32
  let v3198 : BitVec 1 := Scalar.cmpi .eq c16_i32_2910 c0_i32_2911
  let c1_i32_2912 : BitVec 32 := 1#32
  let v3199 : BitVec 32 := Scalar.select v3198 c1_i32_2912 c16_i32_2910
  let v3200 : BitVec 32 := Scalar.remsi v3197 v3199
  let c0_i32_2914 : BitVec 32 := 0#32
  let v3202 : BitVec 1 := Scalar.cmpi .slt v3200 c0_i32_2914
  let c0_i32_2915 : BitVec 32 := 0#32
  let v3203 : BitVec 1 := Scalar.cmpi .slt v3199 c0_i32_2915
  let v3204 : BitVec 1 := Scalar.xori v3202 v3203
  let c0_i32_2913 : BitVec 32 := 0#32
  let v3201 : BitVec 1 := Scalar.cmpi .ne v3200 c0_i32_2913
  let v3205 : BitVec 1 := Scalar.andi v3204 v3201
  let v3206 : BitVec 32 := Scalar.addi v3200 v3199
  let v3207 : BitVec 32 := Scalar.select v3205 v3206 v3200
  let c1_i32_2919 : BitVec 32 := 1#32
  let v3208 : BitVec 32 := Scalar.muli v3207 c1_i32_2919
  let v3209 : BitVec 32 := Scalar.addi c0_i32_2920 v3208
  v3209.toNat
def k0_dev69 (d0 : Dev nD) : Nat :=
  let c0_i32_2934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2923 : BitVec 32 := 7#32
  let v3216 : BitVec 32 := Scalar.addi v2 c7_i32_2923
  let c16_i32_2924 : BitVec 32 := 16#32
  let c0_i32_2925 : BitVec 32 := 0#32
  let v3217 : BitVec 1 := Scalar.cmpi .eq c16_i32_2924 c0_i32_2925
  let c1_i32_2926 : BitVec 32 := 1#32
  let v3218 : BitVec 32 := Scalar.select v3217 c1_i32_2926 c16_i32_2924
  let v3219 : BitVec 32 := Scalar.remsi v3216 v3218
  let c0_i32_2928 : BitVec 32 := 0#32
  let v3221 : BitVec 1 := Scalar.cmpi .slt v3219 c0_i32_2928
  let c0_i32_2929 : BitVec 32 := 0#32
  let v3222 : BitVec 1 := Scalar.cmpi .slt v3218 c0_i32_2929
  let v3223 : BitVec 1 := Scalar.xori v3221 v3222
  let c0_i32_2927 : BitVec 32 := 0#32
  let v3220 : BitVec 1 := Scalar.cmpi .ne v3219 c0_i32_2927
  let v3224 : BitVec 1 := Scalar.andi v3223 v3220
  let v3225 : BitVec 32 := Scalar.addi v3219 v3218
  let v3226 : BitVec 32 := Scalar.select v3224 v3225 v3219
  let c1_i32_2933 : BitVec 32 := 1#32
  let v3227 : BitVec 32 := Scalar.muli v3226 c1_i32_2933
  let v3228 : BitVec 32 := Scalar.addi c0_i32_2934 v3227
  v3228.toNat
def k0_dev70 (d0 : Dev nD) : Nat :=
  let c0_i32_2948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2937 : BitVec 32 := 8#32
  let v3235 : BitVec 32 := Scalar.addi v2 c8_i32_2937
  let c16_i32_2938 : BitVec 32 := 16#32
  let c0_i32_2939 : BitVec 32 := 0#32
  let v3236 : BitVec 1 := Scalar.cmpi .eq c16_i32_2938 c0_i32_2939
  let c1_i32_2940 : BitVec 32 := 1#32
  let v3237 : BitVec 32 := Scalar.select v3236 c1_i32_2940 c16_i32_2938
  let v3238 : BitVec 32 := Scalar.remsi v3235 v3237
  let c0_i32_2942 : BitVec 32 := 0#32
  let v3240 : BitVec 1 := Scalar.cmpi .slt v3238 c0_i32_2942
  let c0_i32_2943 : BitVec 32 := 0#32
  let v3241 : BitVec 1 := Scalar.cmpi .slt v3237 c0_i32_2943
  let v3242 : BitVec 1 := Scalar.xori v3240 v3241
  let c0_i32_2941 : BitVec 32 := 0#32
  let v3239 : BitVec 1 := Scalar.cmpi .ne v3238 c0_i32_2941
  let v3243 : BitVec 1 := Scalar.andi v3242 v3239
  let v3244 : BitVec 32 := Scalar.addi v3238 v3237
  let v3245 : BitVec 32 := Scalar.select v3243 v3244 v3238
  let c1_i32_2947 : BitVec 32 := 1#32
  let v3246 : BitVec 32 := Scalar.muli v3245 c1_i32_2947
  let v3247 : BitVec 32 := Scalar.addi c0_i32_2948 v3246
  v3247.toNat
def k0_dev71 (d0 : Dev nD) : Nat :=
  let c0_i32_2962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2951 : BitVec 32 := 9#32
  let v3254 : BitVec 32 := Scalar.addi v2 c9_i32_2951
  let c16_i32_2952 : BitVec 32 := 16#32
  let c0_i32_2953 : BitVec 32 := 0#32
  let v3255 : BitVec 1 := Scalar.cmpi .eq c16_i32_2952 c0_i32_2953
  let c1_i32_2954 : BitVec 32 := 1#32
  let v3256 : BitVec 32 := Scalar.select v3255 c1_i32_2954 c16_i32_2952
  let v3257 : BitVec 32 := Scalar.remsi v3254 v3256
  let c0_i32_2956 : BitVec 32 := 0#32
  let v3259 : BitVec 1 := Scalar.cmpi .slt v3257 c0_i32_2956
  let c0_i32_2957 : BitVec 32 := 0#32
  let v3260 : BitVec 1 := Scalar.cmpi .slt v3256 c0_i32_2957
  let v3261 : BitVec 1 := Scalar.xori v3259 v3260
  let c0_i32_2955 : BitVec 32 := 0#32
  let v3258 : BitVec 1 := Scalar.cmpi .ne v3257 c0_i32_2955
  let v3262 : BitVec 1 := Scalar.andi v3261 v3258
  let v3263 : BitVec 32 := Scalar.addi v3257 v3256
  let v3264 : BitVec 32 := Scalar.select v3262 v3263 v3257
  let c1_i32_2961 : BitVec 32 := 1#32
  let v3265 : BitVec 32 := Scalar.muli v3264 c1_i32_2961
  let v3266 : BitVec 32 := Scalar.addi c0_i32_2962 v3265
  v3266.toNat
def k0_dev72 (d0 : Dev nD) : Nat :=
  let c0_i32_2976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2965 : BitVec 32 := 10#32
  let v3273 : BitVec 32 := Scalar.addi v2 c10_i32_2965
  let c16_i32_2966 : BitVec 32 := 16#32
  let c0_i32_2967 : BitVec 32 := 0#32
  let v3274 : BitVec 1 := Scalar.cmpi .eq c16_i32_2966 c0_i32_2967
  let c1_i32_2968 : BitVec 32 := 1#32
  let v3275 : BitVec 32 := Scalar.select v3274 c1_i32_2968 c16_i32_2966
  let v3276 : BitVec 32 := Scalar.remsi v3273 v3275
  let c0_i32_2970 : BitVec 32 := 0#32
  let v3278 : BitVec 1 := Scalar.cmpi .slt v3276 c0_i32_2970
  let c0_i32_2971 : BitVec 32 := 0#32
  let v3279 : BitVec 1 := Scalar.cmpi .slt v3275 c0_i32_2971
  let v3280 : BitVec 1 := Scalar.xori v3278 v3279
  let c0_i32_2969 : BitVec 32 := 0#32
  let v3277 : BitVec 1 := Scalar.cmpi .ne v3276 c0_i32_2969
  let v3281 : BitVec 1 := Scalar.andi v3280 v3277
  let v3282 : BitVec 32 := Scalar.addi v3276 v3275
  let v3283 : BitVec 32 := Scalar.select v3281 v3282 v3276
  let c1_i32_2975 : BitVec 32 := 1#32
  let v3284 : BitVec 32 := Scalar.muli v3283 c1_i32_2975
  let v3285 : BitVec 32 := Scalar.addi c0_i32_2976 v3284
  v3285.toNat
def k0_dev73 (d0 : Dev nD) : Nat :=
  let c0_i32_2990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2979 : BitVec 32 := 11#32
  let v3292 : BitVec 32 := Scalar.addi v2 c11_i32_2979
  let c16_i32_2980 : BitVec 32 := 16#32
  let c0_i32_2981 : BitVec 32 := 0#32
  let v3293 : BitVec 1 := Scalar.cmpi .eq c16_i32_2980 c0_i32_2981
  let c1_i32_2982 : BitVec 32 := 1#32
  let v3294 : BitVec 32 := Scalar.select v3293 c1_i32_2982 c16_i32_2980
  let v3295 : BitVec 32 := Scalar.remsi v3292 v3294
  let c0_i32_2984 : BitVec 32 := 0#32
  let v3297 : BitVec 1 := Scalar.cmpi .slt v3295 c0_i32_2984
  let c0_i32_2985 : BitVec 32 := 0#32
  let v3298 : BitVec 1 := Scalar.cmpi .slt v3294 c0_i32_2985
  let v3299 : BitVec 1 := Scalar.xori v3297 v3298
  let c0_i32_2983 : BitVec 32 := 0#32
  let v3296 : BitVec 1 := Scalar.cmpi .ne v3295 c0_i32_2983
  let v3300 : BitVec 1 := Scalar.andi v3299 v3296
  let v3301 : BitVec 32 := Scalar.addi v3295 v3294
  let v3302 : BitVec 32 := Scalar.select v3300 v3301 v3295
  let c1_i32_2989 : BitVec 32 := 1#32
  let v3303 : BitVec 32 := Scalar.muli v3302 c1_i32_2989
  let v3304 : BitVec 32 := Scalar.addi c0_i32_2990 v3303
  v3304.toNat
def k0_dev74 (d0 : Dev nD) : Nat :=
  let c0_i32_3004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2993 : BitVec 32 := 12#32
  let v3311 : BitVec 32 := Scalar.addi v2 c12_i32_2993
  let c16_i32_2994 : BitVec 32 := 16#32
  let c0_i32_2995 : BitVec 32 := 0#32
  let v3312 : BitVec 1 := Scalar.cmpi .eq c16_i32_2994 c0_i32_2995
  let c1_i32_2996 : BitVec 32 := 1#32
  let v3313 : BitVec 32 := Scalar.select v3312 c1_i32_2996 c16_i32_2994
  let v3314 : BitVec 32 := Scalar.remsi v3311 v3313
  let c0_i32_2998 : BitVec 32 := 0#32
  let v3316 : BitVec 1 := Scalar.cmpi .slt v3314 c0_i32_2998
  let c0_i32_2999 : BitVec 32 := 0#32
  let v3317 : BitVec 1 := Scalar.cmpi .slt v3313 c0_i32_2999
  let v3318 : BitVec 1 := Scalar.xori v3316 v3317
  let c0_i32_2997 : BitVec 32 := 0#32
  let v3315 : BitVec 1 := Scalar.cmpi .ne v3314 c0_i32_2997
  let v3319 : BitVec 1 := Scalar.andi v3318 v3315
  let v3320 : BitVec 32 := Scalar.addi v3314 v3313
  let v3321 : BitVec 32 := Scalar.select v3319 v3320 v3314
  let c1_i32_3003 : BitVec 32 := 1#32
  let v3322 : BitVec 32 := Scalar.muli v3321 c1_i32_3003
  let v3323 : BitVec 32 := Scalar.addi c0_i32_3004 v3322
  v3323.toNat
def k0_dev75 (d0 : Dev nD) : Nat :=
  let c0_i32_3018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3007 : BitVec 32 := 13#32
  let v3330 : BitVec 32 := Scalar.addi v2 c13_i32_3007
  let c16_i32_3008 : BitVec 32 := 16#32
  let c0_i32_3009 : BitVec 32 := 0#32
  let v3331 : BitVec 1 := Scalar.cmpi .eq c16_i32_3008 c0_i32_3009
  let c1_i32_3010 : BitVec 32 := 1#32
  let v3332 : BitVec 32 := Scalar.select v3331 c1_i32_3010 c16_i32_3008
  let v3333 : BitVec 32 := Scalar.remsi v3330 v3332
  let c0_i32_3012 : BitVec 32 := 0#32
  let v3335 : BitVec 1 := Scalar.cmpi .slt v3333 c0_i32_3012
  let c0_i32_3013 : BitVec 32 := 0#32
  let v3336 : BitVec 1 := Scalar.cmpi .slt v3332 c0_i32_3013
  let v3337 : BitVec 1 := Scalar.xori v3335 v3336
  let c0_i32_3011 : BitVec 32 := 0#32
  let v3334 : BitVec 1 := Scalar.cmpi .ne v3333 c0_i32_3011
  let v3338 : BitVec 1 := Scalar.andi v3337 v3334
  let v3339 : BitVec 32 := Scalar.addi v3333 v3332
  let v3340 : BitVec 32 := Scalar.select v3338 v3339 v3333
  let c1_i32_3017 : BitVec 32 := 1#32
  let v3341 : BitVec 32 := Scalar.muli v3340 c1_i32_3017
  let v3342 : BitVec 32 := Scalar.addi c0_i32_3018 v3341
  v3342.toNat
def k0_dev76 (d0 : Dev nD) : Nat :=
  let c0_i32_3032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3021 : BitVec 32 := 14#32
  let v3349 : BitVec 32 := Scalar.addi v2 c14_i32_3021
  let c16_i32_3022 : BitVec 32 := 16#32
  let c0_i32_3023 : BitVec 32 := 0#32
  let v3350 : BitVec 1 := Scalar.cmpi .eq c16_i32_3022 c0_i32_3023
  let c1_i32_3024 : BitVec 32 := 1#32
  let v3351 : BitVec 32 := Scalar.select v3350 c1_i32_3024 c16_i32_3022
  let v3352 : BitVec 32 := Scalar.remsi v3349 v3351
  let c0_i32_3026 : BitVec 32 := 0#32
  let v3354 : BitVec 1 := Scalar.cmpi .slt v3352 c0_i32_3026
  let c0_i32_3027 : BitVec 32 := 0#32
  let v3355 : BitVec 1 := Scalar.cmpi .slt v3351 c0_i32_3027
  let v3356 : BitVec 1 := Scalar.xori v3354 v3355
  let c0_i32_3025 : BitVec 32 := 0#32
  let v3353 : BitVec 1 := Scalar.cmpi .ne v3352 c0_i32_3025
  let v3357 : BitVec 1 := Scalar.andi v3356 v3353
  let v3358 : BitVec 32 := Scalar.addi v3352 v3351
  let v3359 : BitVec 32 := Scalar.select v3357 v3358 v3352
  let c1_i32_3031 : BitVec 32 := 1#32
  let v3360 : BitVec 32 := Scalar.muli v3359 c1_i32_3031
  let v3361 : BitVec 32 := Scalar.addi c0_i32_3032 v3360
  v3361.toNat
def k0_dev77 (d0 : Dev nD) : Nat :=
  let c0_i32_3046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3035 : BitVec 32 := 15#32
  let v3368 : BitVec 32 := Scalar.addi v2 c15_i32_3035
  let c16_i32_3036 : BitVec 32 := 16#32
  let c0_i32_3037 : BitVec 32 := 0#32
  let v3369 : BitVec 1 := Scalar.cmpi .eq c16_i32_3036 c0_i32_3037
  let c1_i32_3038 : BitVec 32 := 1#32
  let v3370 : BitVec 32 := Scalar.select v3369 c1_i32_3038 c16_i32_3036
  let v3371 : BitVec 32 := Scalar.remsi v3368 v3370
  let c0_i32_3040 : BitVec 32 := 0#32
  let v3373 : BitVec 1 := Scalar.cmpi .slt v3371 c0_i32_3040
  let c0_i32_3041 : BitVec 32 := 0#32
  let v3374 : BitVec 1 := Scalar.cmpi .slt v3370 c0_i32_3041
  let v3375 : BitVec 1 := Scalar.xori v3373 v3374
  let c0_i32_3039 : BitVec 32 := 0#32
  let v3372 : BitVec 1 := Scalar.cmpi .ne v3371 c0_i32_3039
  let v3376 : BitVec 1 := Scalar.andi v3375 v3372
  let v3377 : BitVec 32 := Scalar.addi v3371 v3370
  let v3378 : BitVec 32 := Scalar.select v3376 v3377 v3371
  let c1_i32_3045 : BitVec 32 := 1#32
  let v3379 : BitVec 32 := Scalar.muli v3378 c1_i32_3045
  let v3380 : BitVec 32 := Scalar.addi c0_i32_3046 v3379
  v3380.toNat
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .local _ .vmem, ⟨0, _⟩ => ⟨S4096x4096, .bf16⟩
  | .local _ .vmem, ⟨1, _⟩ => ⟨S4096x8192, .bf16⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Plan.lean ====
/- The kernel as a list of steps: each step names a hop, a block or a message by its number, and the program is read
   off the list. -/
module

public import proofs.«01_k».proof.Proof.Gen.KernelIdeal.Skeleton
public import proofs.«01_k».proof.Proof.Gen.KernelIdeal.Frame

@[expose] public section

noncomputable section

namespace Cert.AllGather

open Cert.KernelIdeal Cert.KernelIdeal.Gen
open Idealize.ShloMosaic Idealize.ShloMosaic.TcCoe Idealize.ShloMosaic.Tactic
open Idealize.SL.Sem

variable {F : FTy → Type} [FloatOps F]

/-! ## The hops -/

/-- How many hops of stream `q` go to the right; the other way there are `15` less that many. -/
def rightCount (q : ℕ) : ℕ := if q % 2 = 0 then 8 else 7

/-- The stream a hop belongs to: fifteen hops each. -/
def hopStream (h : Fin 60) : Fin 4 := ⟨h.val / 15, by omega⟩
/-- Does the hop go to the right neighbour? -/
def goesRight (h : Fin 60) : Bool := decide (h.val % 15 < rightCount (h.val / 15))
/-- The hop's number among those of its stream and direction. -/
def hopStep (h : Fin 60) : ℕ := if goesRight h then h.val % 15 else h.val % 15 - rightCount (h.val / 15)
/-- The slot a hop reads at its sender. -/
def srcSlot (h : Fin 60) : Fin 16 := Fin.ofNat 16 (if goesRight h then 16 - hopStep h else hopStep h)
/-- The slot a hop writes at its receiver. -/
def dstSlot (h : Fin 60) : Fin 16 := Fin.ofNat 16 (if goesRight h then 15 - hopStep h else hopStep h + 1)
/-- The first of the semaphores of a hop's direction, counted in its stream's thirty. -/
def dirBase (h : Fin 60) : ℕ := if goesRight h then 0 else 2 * rightCount (h.val / 15)
/-- How many hops the hop's direction has. -/
def dirCount (h : Fin 60) : ℕ := if goesRight h then rightCount (h.val / 15) else 15 - rightCount (h.val / 15)

theorem hop_sem_lt : ∀ h : Fin 60, 30 * (h.val / 15) + dirBase h + dirCount h + hopStep h < 120 := by decide

/-- The semaphore a hop completes on at its sender, among the kernel's own hundred and fifty. -/
def sendNo (h : Fin 60) : Fin 150 :=
  ⟨30 * (h.val / 15) + dirBase h + hopStep h, by have := hop_sem_lt h; omega⟩
/-- The semaphore a hop completes on at its receiver. -/
def recvNo (h : Fin 60) : Fin 150 :=
  ⟨30 * (h.val / 15) + dirBase h + dirCount h + hopStep h, by have := hop_sem_lt h; omega⟩
/-- The semaphores of the maxima's messages, at the sender and at the receiver. -/
def msgSendNo (d : Fin 15) : Fin 150 := ⟨120 + d.val, by omega⟩
def msgRecvNo (d : Fin 15) : Fin 150 := ⟨135 + d.val, by omega⟩

/-- The kernel's own copy semaphores. -/
def ownSem (k : Fin 150) : DmaSem sig := ⟨3 + k.val, by have := k.isLt; show 3 + k.val < 153; omega⟩

/-! ## The buffers -/

/-- The ring buffer of stream `q`. -/
def ringBuf (q : Fin 4) : Memref sig .tc .vmem S16x64x4096 .bf16 :=
  match q with
  | 0 => Memref.whole cc0_scratch0
  | 1 => Memref.whole cc0_scratch1
  | 2 => Memref.whole cc0_scratch2
  | 3 => Memref.whole cc0_scratch3

theorem ringBuf_whole : ∀ q, (ringBuf q).IsWhole
  | 0 => Memref.isWhole_whole _ | 1 => Memref.isWhole_whole _ | 2 => Memref.isWhole_whole _ | 3 => Memref.isWhole_whole _

abbrev xBuf : Memref sig .tc .vmem S256x4096 .bf16 := Memref.whole cc0_stg0_0
abbrev wBuf : Memref sig .tc .vmem S4096x512 .bf16 := Memref.whole cc0_stg1_0
abbrev oBuf : Memref sig .tc .vmem S4096x512 .f32 := Memref.whole cc0_stg2_0
abbrev wCopy : Memref sig .tc .vmem S4096x512 .bf16 := Memref.whole cc0_scratch4
abbrev gBuf : Memref sig .tc .vmem S16x8x128 .f32 := Memref.whole cc0_scratch5
abbrev aBuf : Memref sig .tc .vmem S8x128 .f32 := Memref.whole cc0_scratch6

theorem slot_inb (s : Fin 16) : ∀ a, (![s.val, 0, 0] : Fin 3 → Nat) a + S1x64x4096.size a ≤ S16x64x4096.size a := by
  revert s; decide
theorem slot_words : ∀ s : Fin 16,
    (Rect.unit (s := S16x64x4096) ![s.val, 0, 0] S1x64x4096.size (slot_inb s)).WholeWords (EltTy.packing .bf16) := by
  decide
theorem gslot_inb (s : Fin 16) : ∀ a, (![s.val, 0, 0] : Fin 3 → Nat) a + S1x8x128.size a ≤ S16x8x128.size a := by
  revert s; decide
theorem quarter_inb (q : Fin 4) : ∀ a, (![64 * q.val, 0] : Fin 2 → Nat) a + S64x4096.size a ≤ S256x4096.size a := by
  revert q; decide

/-- Slot `s` of a ring buffer, as the copies see it. -/
abbrev slot (q : Fin 4) (s : Fin 16) : Memref sig .tc .vmem S64x4096 .bf16 :=
  ((ringBuf q).slice (Rect.unit (s := S16x64x4096) ![s.val, 0, 0] S1x64x4096.size (slot_inb s)) (fun _ => rfl)).squeeze
    S64x4096 squeezes_S1x64x4096_S64x4096

/-- Slot `s` of the gathered maxima. -/
abbrev gslot (s : Fin 16) : Memref sig .tc .vmem S8x128 .f32 :=
  (gBuf.slice (Rect.unit (s := S16x8x128) ![s.val, 0, 0] S1x8x128.size (gslot_inb s)) (fun _ => rfl)).squeeze
    S8x128 squeezes_S1x8x128_S8x128

theorem slot_exact (q : Fin 4) (s : Fin 16) : (slot q s).view.WordExact :=
  ((ringBuf_whole q).wordExact_slice rfl _ (slot_words s)).reshape _ _

/-- The slot of the gathered maxima that the message over distance `d + 1` is for. -/
def msgSlot (d : Fin 15) : Fin 16 := ⟨15 - d.val, by omega⟩

/-! ## The devices -/

def leftDev (c : Dev nD) : Dev nD := ⟨k0_dev1 c, k0_dev1_lt c⟩
def rightDev (c : Dev nD) : Dev nD := ⟨k0_dev2 c, k0_dev2_lt c⟩
/-- The device a hop goes to. -/
def hopDev (h : Fin 60) (c : Dev nD) : Dev nD := if goesRight h then rightDev c else leftDev c
/-- The device the message over distance `d + 1` goes to. -/
def msgDev (d : Fin 15) (c : Dev nD) : Dev nD :=
  match d with
  | 0 => ⟨k0_dev63 c, k0_dev63_lt c⟩ | 1 => ⟨k0_dev64 c, k0_dev64_lt c⟩ | 2 => ⟨k0_dev65 c, k0_dev65_lt c⟩
  | 3 => ⟨k0_dev66 c, k0_dev66_lt c⟩ | 4 => ⟨k0_dev67 c, k0_dev67_lt c⟩ | 5 => ⟨k0_dev68 c, k0_dev68_lt c⟩
  | 6 => ⟨k0_dev69 c, k0_dev69_lt c⟩ | 7 => ⟨k0_dev70 c, k0_dev70_lt c⟩ | 8 => ⟨k0_dev71 c, k0_dev71_lt c⟩
  | 9 => ⟨k0_dev72 c, k0_dev72_lt c⟩ | 10 => ⟨k0_dev73 c, k0_dev73_lt c⟩ | 11 => ⟨k0_dev74 c, k0_dev74_lt c⟩
  | 12 => ⟨k0_dev75 c, k0_dev75_lt c⟩ | 13 => ⟨k0_dev76 c, k0_dev76_lt c⟩ | 14 => ⟨k0_dev77 c, k0_dev77_lt c⟩

theorem leftDev_eq : ∀ c, leftDev c = c - 1 := by decide +kernel
theorem rightDev_eq : ∀ c, rightDev c = c + 1 := by decide +kernel
theorem msgDev_eq : ∀ d c, msgDev d c = c + Fin.ofNat 16 (d.val + 1) := by decide +kernel

/-! ## The pure values -/

/-- The product of a slot's block with the weights. -/
def prodOf (v : Vec F S1x64x4096 .bf16) (w : Vec F S4096x512 .bf16) : FVec F S64x512 .f32 := k0_pay7 v w

/-- The largest magnitude in a product. -/
def peakOf (b : FVec F S64x512 .f32) : F .f32 :=
  extractAt ![0, 0, 0]
    (shapeCast S1x1x1
      (multiReduction .maximumf [1, 2] S1 (shapeCast S1x64x512 (absf b) shapeCasts_S64x512_S1x64x512) 0xFF800000#32
        reduces_S1x64x512_S1 (.inl rfl) rfl) shapeCasts_S1_S1x1x1) inpos_S1x1x1_p0_0_0

/-- The running maximum: the first product starts it. -/
def peakJoin (a : Option (F .f32)) (b : F .f32) : F .f32 :=
  match a with
  | none => b
  | some a => Scalar.maximumf a b

/-- What a quarter of the shard is stored as. -/
def quarterOf (v : Vec F S64x4096 .bf16) : FVec F S1x64x4096 .bf16 :=
  shapeCast S1x64x4096 (shapeCast S64x4096 v shapeCasts_S64x4096_S64x4096) shapeCasts_S64x4096_S1x64x4096

/-! ## The steps -/

inductive Step
  | sigLeft | sigRight | meet
  | put (q : Fin 4)
  | send (h : Fin 60)
  | putW
  | gemm (q : Fin 4) (r : Fin 16)
  | got (h : Fin 60)
  | sent (h : Fin 60)
  | putA | putG
  | msg (d : Fin 15)
  | msgSent (d : Fin 15)
  | msgGot (d : Fin 15)
deriving DecidableEq

abbrev KProg (F : FTy → Type) (α : Type) := Prog (TpuEff nD τ sig (Elt F) Λ₀ .tc) α

abbrev barSem : Sem sig := (SemArray.scalar (sig.barrier 0 rfl) : Sems sig S_).sem

/-- A step's operations, on device `c`, with the running maximum so far. -/
def exec (c : Dev nD) (e : Step) (a : Option (F .f32)) : KProg F (Option (F .f32)) :=
  match e with
  | .sigLeft => do semSignalWord (leftDev c) barSem 1#32; pure a
  | .sigRight => do semSignalWord (rightDev c) barSem 1#32; pure a
  | .meet => do semWaitWord barSem 2#32; pure a
  | .put q => do
      let v : Vec F S64x4096 .bf16 ← Prog.lift (.load xBuf (Rect.unit (s := S256x4096) ![64 * q.val, 0] S64x4096.size (quarter_inb q)).toLoadRect (View.loadsAt_vmem h_S64x4096))
      let _ : Vec F S1x64x4096 .bf16 ← Prog.lift (.load (ringBuf q) (Rect.unit (s := S16x64x4096) ![0, 0, 0] S1x64x4096.size inb_S16x64x4096_S1x64x4096_0_0_0).toLoadRect (View.loadsAt_vmem h_S1x64x4096))
      Prog.lift (.store (ringBuf q) (Rect.unit (s := S16x64x4096) ![0, 0, 0] S1x64x4096.size inb_S16x64x4096_S1x64x4096_0_0_0) (quarterOf v) Finset.univ (View.stores_vmem h_S1x64x4096 ((ringBuf_whole q).storeExact_slice rfl _ packedbf16_S16x64x4096_S1x64x4096_0_0_0) (fun _ => rfl)) (.inl rfl))
      pure a
  | .send h => do
      Prog.lift (.enqueueDma (slot (hopStream h) (srcSlot h)) (.remote (Dev.tc (hopDev h c)) (slot (hopStream h) (dstSlot h)) (.dma (ownSem (sendNo h)))) (.dma (ownSem (recvNo h))) (slot_exact _ _) (slot_exact _ _) ⟨⟨rfl, Or.inl rfl⟩, trivial⟩)
      pure a
  | .putW => do
      let v : Vec F S4096x512 .bf16 ← Prog.lift (.load wBuf (Rect.unit (s := S4096x512) ![0, 0] S4096x512.size inb_S4096x512_S4096x512_0_0).toLoadRect (View.loadsAt_vmem h_S4096x512))
      let _ : Vec F S4096x512 .bf16 ← Prog.lift (.load wCopy (Rect.unit (s := S4096x512) ![0, 0] S4096x512.size inb_S4096x512_S4096x512_0_0).toLoadRect (View.loadsAt_vmem h_S4096x512))
      Prog.lift (.store wCopy (Rect.unit (s := S4096x512) ![0, 0] S4096x512.size inb_S4096x512_S4096x512_0_0) (k0_pay6 v) Finset.univ (View.stores_vmem h_S4096x512 ((Memref.isWhole_whole _).storeExact_slice rfl _ packedbf16_S4096x512_S4096x512_0_0) (fun _ => rfl)) (.inl rfl))
      pure a
  | .gemm q r => do
      let v : Vec F S1x64x4096 .bf16 ← Prog.lift (.load (ringBuf q) (Rect.unit (s := S16x64x4096) ![r.val, 0, 0] S1x64x4096.size (slot_inb r)).toLoadRect (View.loadsAt_vmem h_S1x64x4096))
      let w : Vec F S4096x512 .bf16 ← Prog.lift (.load wCopy (Rect.unit (s := S4096x512) ![0, 0] S4096x512.size inb_S4096x512_S4096x512_0_0).toLoadRect (View.loadsAt_vmem h_S4096x512))
      let _ : Vec F S64x512 .f32 ← Prog.lift (.load oBuf (Rect.unit (s := S4096x512) (k0_off1 c (BitVec.ofNat 32 r.val) (BitVec.ofNat 32 (64 * q.val))) S64x512.size (k0_off1_inb c r q)).toLoadRect (View.loadsAt_vmem h_S64x512))
      Prog.lift (.store oBuf (Rect.unit (s := S4096x512) (k0_off1 c (BitVec.ofNat 32 r.val) (BitVec.ofNat 32 (64 * q.val))) S64x512.size (k0_off1_inb c r q)) (prodOf v w) Finset.univ (View.stores_vmem_bits_univ h_S64x512 rfl) (.inl rfl))
      pure (some (peakJoin a (peakOf (prodOf v w))))
  | .got h => do
      Prog.lift (.waitDma2 (ownSem (recvNo h)) (slot (hopStream h) (srcSlot h)) (slot (hopStream h) (dstSlot h)) (slot_exact _ _) (slot_exact _ _))
      pure a
  | .sent h => do
      Prog.lift (.waitDma2 (ownSem (sendNo h)) (slot (hopStream h) (dstSlot h)) (slot (hopStream h) (srcSlot h)) (slot_exact _ _) (slot_exact _ _))
      pure a
  | .putA => do
      let _ : Vec F S8x128 .f32 ← Prog.lift (.load aBuf (Rect.unit (s := S8x128) ![0, 0] S8x128.size inb_S8x128_S8x128_0_0).toLoadRect (View.loadsAt_vmem h_S8x128))
      Prog.lift (.store aBuf (Rect.unit (s := S8x128) ![0, 0] S8x128.size inb_S8x128_S8x128_0_0) (k0_pay129 (a.getD (Scalar.ofBits .f32 0#32))) Finset.univ (View.stores_vmem_bits_univ h_S8x128 rfl) (.inl rfl))
      pure a
  | .putG => do
      let _ : Vec F S1x8x128 .f32 ← Prog.lift (.load gBuf (Rect.unit (s := S16x8x128) ![0, 0, 0] S1x8x128.size inb_S16x8x128_S1x8x128_0_0_0).toLoadRect (View.loadsAt_vmem h_S1x8x128))
      Prog.lift (.store gBuf (Rect.unit (s := S16x8x128) ![0, 0, 0] S1x8x128.size inb_S16x8x128_S1x8x128_0_0_0) (k0_pay130 (a.getD (Scalar.ofBits .f32 0#32))) Finset.univ (View.stores_vmem_bits_univ h_S1x8x128 rfl) (.inl rfl))
      pure a
  | .msg d => do
      Prog.lift (.enqueueDma aBuf (.remote (Dev.tc (msgDev d c)) (gslot (msgSlot d)) (.dma (ownSem (msgSendNo d)))) (.dma (ownSem (msgRecvNo d))) (Memref.isWhole_whole _).wordExact ((View.wordExact_bits rfl).reshape _ _) ⟨⟨rfl, Or.inl rfl⟩, trivial⟩)
      pure a
  | .msgSent d => do
      Prog.lift (.waitDma2 (ownSem (msgSendNo d)) (gslot (msgSlot d)) aBuf ((View.wordExact_bits rfl).reshape _ _) (Memref.isWhole_whole _).wordExact)
      pure a
  | .msgGot d => do
      Prog.lift (.waitDma2 (ownSem (msgRecvNo d)) aBuf (gslot (msgSlot d)) (Memref.isWhole_whole _).wordExact ((View.wordExact_bits rfl).reshape _ _))
      pure a

/-- The last operations: the global maximum read off the gathered ones, the output quantised in place. -/
def finish : KProg F PUnit := do
  let g : Vec F S16x8x128 .f32 ← Prog.lift (.load gBuf (Rect.unit (s := S16x8x128) ![0, 0, 0] S16x8x128.size inb_S16x8x128_S16x8x128_0_0_0).toLoadRect (View.loadsAt_vmem h_S16x8x128))
  let o : Vec F S4096x512 .f32 ← Prog.lift (.load oBuf (Rect.unit (s := S4096x512) ![0, 0] S4096x512.size inb_S4096x512_S4096x512_0_0).toLoadRect (View.loadsAt_vmem h_S4096x512))
  let _ : Vec F S4096x512 .f32 ← Prog.lift (.load oBuf (Rect.unit (s := S4096x512) ![0, 0] S4096x512.size inb_S4096x512_S4096x512_0_0).toLoadRect (View.loadsAt_vmem h_S4096x512))
  Prog.lift (.store oBuf (Rect.unit (s := S4096x512) ![0, 0] S4096x512.size inb_S4096x512_S4096x512_0_0) (k0_pay1 (k0_pay132 g) (k0_pay134 o) (k0_pay135 (k0_pay133 g))) Finset.univ (View.stores_vmem_bits_univ h_S4096x512 rfl) (.inl rfl))
  pure ⟨⟩

/-- A list of steps, then the last operations. -/
def runSteps (c : Dev nD) : List Step → Option (F .f32) → KProg F PUnit
  | [], _ => finish
  | e :: es, a => exec c e a >>= runSteps c es

/-! ## The kernel's list -/

/-- Hop `j` of stream `q`, to the right or to the left. -/
def hop (q : Fin 4) (right : Bool) (j : Fin 8) : Fin 60 :=
  Fin.ofNat 60 (15 * q.val + (if right then j.val else rightCount q.val + j.val))

/-- The order in which a round visits the eight stream directions. -/
def order : List (Fin 4 × Bool) :=
  [(0, true), (1, false), (1, true), (0, false), (2, true), (3, false), (3, true), (2, false)]

/-- Does stream `q` have hop `j` in this direction? -/
def hasHop (q : Fin 4) (right : Bool) (j : ℕ) : Bool :=
  decide (j < if right then rightCount q.val else 15 - rightCount q.val)

/-- One round: every direction's arrival is awaited and passed on, then the arrivals are multiplied. -/
def roundSteps (j : Fin 8) : List Step :=
  order.flatMap (fun p =>
    (if hasHop p.1 p.2 j then [Step.got (hop p.1 p.2 j)] else []) ++
    (if hasHop p.1 p.2 (j.val + 1) then [Step.send (hop p.1 p.2 (j + 1))] else [])) ++
  order.flatMap (fun p =>
    if hasHop p.1 p.2 j then [Step.gemm p.1 (dstSlot (hop p.1 p.2 j))] else [])

/-- The hops of a stream direction. -/
def sentSteps (q : Fin 4) (right : Bool) : List Step :=
  (List.finRange 8).flatMap fun j => if hasHop q right j.val then [Step.sent (hop q right j)] else []

def steps : List Step :=
  [.sigLeft, .sigRight, .meet] ++ (List.finRange 4).map Step.put ++
  order.map (fun p => Step.send (hop p.1 p.2 0)) ++ [.putW] ++ (List.finRange 4).map (Step.gemm · 0) ++
  (List.finRange 8).flatMap roundSteps ++
  (List.finRange 4).flatMap (fun q => sentSteps q true ++ sentSteps q false) ++
  [.putA, .putG] ++ (List.finRange 15).map Step.msg ++
  (List.finRange 15).flatMap (fun d => [.msgSent d, .msgGot d])

/-- The kernel is its list of steps. -/
theorem body_eq : bodyAt0 (F := F) t0_0 = Prog.lift .deviceId >>= fun c => runSteps c steps none := by
  sl_kernel_rfl

end Cert.AllGather

end
-- ==== Proof.Protocol.lean ====
/- What each semaphore of the exchange hands over, and the resources a device holds between two steps. -/
module

public import proofs.«01_k».proof.Proof.Plan
public import Idealize.ShloMosaic.Lib.Pipeline.Launch
public import Idealize.ShloMosaic.Lib.Pipeline.Kit
public import Idealize.ShloMosaic.Lib.Pipeline.Value

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## A list of resources, conjoined -/

section Stars
variable {ι : Type} {M : Type} [URA M]

def stars (Φ : ι → sProp M) : List ι → sProp M
  | [] => iprop(emp)
  | i :: is => iprop(Φ i ∗ stars Φ is)

end Stars

/-! ## Contents -/

/-- The shard of the activations and of the weights device `c` starts with. -/
def xstg (c : Dev nD) : (cc0_stg0_0 : Ref sig .tc).ty.Contents (Elt F) :=
  (win0_0.blk t0_0).view.read (Elt F) (m ((c : Thread nD τ).loc main_arg0))
def wstg (c : Dev nD) : (cc0_stg1_0 : Ref sig .tc).ty.Contents (Elt F) :=
  (win0_1.blk t0_0).view.read (Elt F) (m ((c : Thread nD τ).loc main_arg1))

/-- The rectangle of a slot in its buffer. -/
abbrev slotRect (s : Fin 16) : Rect S16x64x4096 := Rect.unit (s := S16x64x4096) ![s.val, 0, 0] S1x64x4096.size (slot_inb s)
abbrev gslotRect (s : Fin 16) : Rect S16x8x128 := Rect.unit (s := S16x8x128) ![s.val, 0, 0] S1x8x128.size (gslot_inb s)
abbrev quarterRect (q : Fin 4) : Rect S256x4096 := Rect.unit (s := S256x4096) ![64 * q.val, 0] S64x4096.size (quarter_inb q)

/-- A slot before its leading axis is dropped. -/
abbrev piece (q : Fin 4) (s : Fin 16) : Memref sig .tc .vmem S1x64x4096 .bf16 := (ringBuf q).slice (slotRect s) (fun _ => rfl)
abbrev gpiece (s : Fin 16) : Memref sig .tc .vmem S1x8x128 .f32 := gBuf.slice (gslotRect s) (fun _ => rfl)

/-- Quarter `q` of device `o`'s shard, as a slot holds it. -/
def block (o : Dev nD) (q : Fin 4) : S1x64x4096.Idx → Elt F .bf16 :=
  quarterOf (xBuf.view.readAt (Elt F) (quarterRect q).toLoadRect (xstg m o))

/-- The weights as the kernel copies them. -/
def weights (c : Dev nD) : Vec F S4096x512 .bf16 :=
  k0_pay6 (wBuf.view.readAt (Elt F) (Rect.unit (s := S4096x512) ![0, 0] S4096x512.size inb_S4096x512_S4096x512_0_0).toLoadRect (wstg m c))

/-- The block of the product that slot `r` of stream `q` leaves on device `c`. -/
def prod (c : Dev nD) (q : Fin 4) (r : Fin 16) : FVec F S64x512 .f32 := prodOf (block m (c + r) q) (weights m c)

/-- The running maximum after a list of steps. -/
def accum (c : Dev nD) : List Step → Option (F .f32) → Option (F .f32)
  | [], a => a
  | .gemm q r :: es, a => accum c es (some (peakJoin a (peakOf (prod m c q r))))
  | _ :: es, a => accum c es a

/-- Device `c`'s maximum. -/
def peak (c : Dev nD) : F .f32 := (accum m c steps none).getD (Scalar.ofBits .f32 0#32)

/-- What a slot of the gathered maxima holds for a maximum `a`, and what is sent of it. -/
def gVal (a : F .f32) : S1x8x128.Idx → Elt F .f32 := k0_pay130 a
def aVal (a : F .f32) : S8x128.Idx → Elt F .f32 := k0_pay129 a

/-! ## Cells -/

abbrev barCell (c : Dev nD) : GSem nD τ sig := ((c : Thread nD τ), .reg barSem)
abbrev ownCell (c : Dev nD) (n : Fin 150) : GSem nD τ sig := ((c : Thread nD τ), .dma (ownSem n))

/-- What one of the kernel's own semaphores is for. -/
inductive Role
  | sendHop (h : Fin 60) | recvHop (h : Fin 60) | sendMsg (d : Fin 15) | recvMsg (d : Fin 15)
deriving DecidableEq

def roleOf (n : Fin 150) : Role :=
  if n.val < 120 then
    let q := n.val / 30
    let i := n.val % 30
    let k := rightCount q
    if i < k then .sendHop (Fin.ofNat 60 (15 * q + i))
    else if i < 2 * k then .recvHop (Fin.ofNat 60 (15 * q + (i - k)))
    else if i < k + 15 then .sendHop (Fin.ofNat 60 (15 * q + (i - k)))
    else .recvHop (Fin.ofNat 60 (15 * q + (i - 15)))
  else if n.val < 135 then .sendMsg (Fin.ofNat 15 (n.val - 120)) else .recvMsg (Fin.ofNat 15 (n.val - 135))

theorem roleOf_sendNo : ∀ h, roleOf (sendNo h) = .sendHop h := by decide
theorem roleOf_recvNo : ∀ h, roleOf (recvNo h) = .recvHop h := by decide
theorem roleOf_msgSendNo : ∀ d, roleOf (msgSendNo d) = .sendMsg d := by decide
theorem roleOf_msgRecvNo : ∀ d, roleOf (msgRecvNo d) = .recvMsg d := by decide

/-- The own semaphore a DMA semaphore is, if it is none of the staging ones. -/
def semNo (s : DmaSem sig) : Option (Fin 150) :=
  if h : 3 ≤ s.val then some ⟨s.val - 3, by have : s.val < 153 := s.isLt; omega⟩ else none

theorem semNo_ownSem (n : Fin 150) : semNo (ownSem n) = some n := by
  unfold semNo ownSem
  rw [dif_pos (by show 3 ≤ 3 + n.val; omega)]
  exact congrArg some (Fin.ext (by show 3 + n.val - 3 = n.val; omega))

/-! ## What is handed over -/

/-- The hops of one direction. -/
def hopsOf (right : Bool) : List (Fin 60) := (List.finRange 60).filter (fun h => goesRight h == right)

/-- The slot hop `h` writes, at device `o`, holding anything. -/
def rawAt (o : Dev nD) (h : Fin 60) : sProp 𝕄 :=
  iprop(∃ X, owns (o : Thread nD τ) (piece (hopStream h) (dstSlot h)) fullShare X)

def grawAt (o : Dev nD) (s : Fin 16) : sProp 𝕄 := iprop(∃ X, owns (o : Thread nD τ) (gpiece s) fullShare X)

/-- The slots of the gathered maxima that travel with hop `h`, the hop being of stream `0`. -/
def carrySlots (h : Fin 60) : List (Fin 16) :=
  if goesRight h then (List.finRange 16).filter fun s => 1 + hopStep h ≤ s.val ∧ s.val ≤ 8
  else (List.finRange 16).reverse.filter fun s => 9 ≤ s.val ∧ s.val + hopStep h ≤ 15

/-- With the hops of stream `0` go the permissions to write the maximum's slots at the device the block comes from. -/
def carried (o : Dev nD) (h : Fin 60) : sProp 𝕄 :=
  if hopStream h = 0 then stars (grawAt (F := F) o) (carrySlots h) else iprop(emp)

/-- The share a hop lends of the slot it reads. -/
def srcShare (h : Fin 60) : PosShare TreeShare :=
  if hopStep h = 0 then (if goesRight h then fullShare.right.left else fullShare.right.right) else fullShare.right

/-- Is slot `s` of stream `q` passed on? -/
def passedOn (q : Fin 4) (s : Fin 16) : Bool := (List.finRange 60).any fun h => hopStream h == q && srcSlot h == s

/-- The share of a slot that stays. -/
def keepShare (q : Fin 4) (s : Fin 16) : PosShare TreeShare := if passedOn q s then fullShare.left else fullShare

/-- The share of the maximum's buffer that message `d` is lent, and what stays. -/
def restShare : ℕ → PosShare TreeShare
  | 0 => fullShare
  | k + 1 => (restShare k).right
def msgShare (d : ℕ) : PosShare TreeShare := (restShare d).left

def srcPts (c : Dev nD) (h : Fin 60) : sProp 𝕄 :=
  owns (c : Thread nD τ) (piece (hopStream h) (srcSlot h)) (srcShare h) (block m (c + srcSlot h) (hopStream h))

def landedPts (c : Dev nD) (h : Fin 60) : sProp 𝕄 :=
  owns (c : Thread nD τ) (piece (hopStream h) (dstSlot h)) fullShare (block m (c + dstSlot h) (hopStream h))

def aPts (c : Dev nD) (q : PosShare TreeShare) : sProp 𝕄 := ((c : Thread nD τ).loc cc0_scratch6) ↦{q} aVal (peak m c)

def gPts (c : Dev nD) (s : Fin 16) : sProp 𝕄 := owns (c : Thread nD τ) (gpiece s) fullShare (gVal (peak m (c + s)))

/-- What a device's signal of its barrier semaphore hands its neighbour: the slots that neighbour's hops write here. -/
def barPay (c : Dev nD) (d : Bool) : sProp 𝕄 := stars (fun h => rawAt (F := F) (hopDev h c) h) (hopsOf d)

def ownPay (c : Dev nD) (n : Fin 150) : sProp 𝕄 :=
  match roleOf n with
  | .sendHop h => srcPts m c h
  | .recvHop h => iprop(landedPts m c h ∗ carried (c + dstSlot h) h)
  | .sendMsg d => aPts m c (msgShare d.val)
  | .recvMsg d => gPts m c (msgSlot d)

/-- The credits of a block's copy and of a maximum's. -/
abbrev blockCredit : ℕ := (slot 0 0).view.dmaCredit
abbrev msgCredit : ℕ := (gslot 0).view.dmaCredit

theorem blockCredit_eq (q s) : (slot q s).view.dmaCredit = blockCredit := rfl
theorem msgCredit_eq (s) : (gslot s).view.dmaCredit = msgCredit := rfl
theorem aCredit_eq : aBuf.view.dmaCredit = msgCredit := rfl

def ownAmount (n : Fin 150) : ℕ :=
  match roleOf n with
  | .sendHop _ => blockCredit | .recvHop _ => blockCredit | .sendMsg _ => msgCredit | .recvMsg _ => msgCredit

theorem blockCredit_pos : 0 < blockCredit := View.dmaCredit_pos _ (by decide)
theorem msgCredit_pos : 0 < msgCredit := View.dmaCredit_pos _ (by decide)
theorem ownAmount_pos (n : Fin 150) : 0 < ownAmount n := by
  unfold ownAmount; split <;> first | exact blockCredit_pos | exact msgCredit_pos

instance stars_storable {ι : Type} (Φ : ι → sProp 𝕄) [∀ i, BI.Storable (upEmb : UEmb _ 𝕄) (Φ i)] (l : List ι) :
    BI.Storable (upEmb : UEmb _ 𝕄) (stars Φ l) := by
  induction l with
  | nil => unfold stars; infer_instance
  | cons i is ih => unfold stars; infer_instance

instance rawAt_storable (o h) : BI.Storable (upEmb : UEmb _ 𝕄) (rawAt (F := F) o h) := by unfold rawAt; infer_instance
instance grawAt_storable (o s) : BI.Storable (upEmb : UEmb _ 𝕄) (grawAt (F := F) o s) := by unfold grawAt; infer_instance
instance carried_storable (o h) : BI.Storable (upEmb : UEmb _ 𝕄) (carried (F := F) o h) := by
  unfold carried; split <;> infer_instance
instance barPay_storable (c d) : BI.Storable (upEmb : UEmb _ 𝕄) (barPay (F := F) c d) := by unfold barPay; infer_instance
instance ownPay_storable (c n) : BI.Storable (upEmb : UEmb _ 𝕄) (ownPay m c n) := by
  unfold ownPay srcPts landedPts aPts gPts; split <;> infer_instance

/-! ## The schedule -/

def sched : Rounds.Schedule (GSem nD τ sig) Bool 𝕄 where
  duties g r := if r = 0 ∧ g.1.2 = .tc then
      (match g.2 with
        | .reg _ => Finset.univ
        | .dma s => match semNo s with | some _ => {false} | none => ∅)
    else ∅
  unitless _ := False
  amount g _ _ := match g.2 with
    | .reg _ => 1
    | .dma s => match semNo s with | some n => ownAmount n | none => 1
  payload g _ d := match g.2 with
    | .reg _ => barPay (F := F) g.1.1 d
    | .dma s => match semNo s with | some n => ownPay m g.1.1 n | none => iprop(emp)
  amount_pos g _ _ _ := by
    split
    · exact Nat.one_pos
    · split
      · exact ownAmount_pos _
      · exact Nat.one_pos

instance sched_payload_storable (g : GSem nD τ sig) (r : ℕ) (d : Bool) :
    BI.Storable (upEmb : UEmb _ 𝕄) ((sched m).payload g r d) := by
  dsimp only [sched]
  split
  · infer_instance
  · split <;> infer_instance

section Sched
variable (c : Dev nD) (n : Fin 150)

theorem duties_bar : (sched m).duties (barCell c) 0 = Finset.univ := by dsimp only [sched]; exact if_pos ⟨rfl, rfl⟩
theorem duties_own : (sched m).duties (ownCell c n) 0 = {false} := by
  dsimp only [sched]; rw [semNo_ownSem]; exact if_pos ⟨rfl, rfl⟩
theorem duties_later (g : GSem nD τ sig) : ∀ r, 1 ≤ r → (sched m).duties g r = ∅ :=
  fun r hr => if_neg fun h => by omega
theorem amount_bar (d : Bool) : (sched m).amount (barCell c) 0 d = 1 := rfl
theorem amount_own (d : Bool) : (sched m).amount (ownCell c n) 0 d = ownAmount n := by
  dsimp only [sched]; rw [semNo_ownSem]
theorem expect_bar : (sched m).expect (barCell c) 0 = 2 := by
  unfold Schedule.expect Schedule.amountOf
  rw [duties_bar, Finset.sum_congr rfl fun d _ => amount_bar m c d]; rfl
theorem expect_own : (sched m).expect (ownCell c n) 0 = ownAmount n := by
  unfold Schedule.expect Schedule.amountOf
  rw [duties_own, Finset.sum_singleton, amount_own]
theorem payload_bar (d : Bool) : (sched m).payload (barCell c) 0 d = barPay c d := rfl
theorem payload_own (d : Bool) : (sched m).payload (ownCell c n) 0 d = ownPay m c n := by
  dsimp only [sched]; rw [semNo_ownSem]

theorem rest_bar : bigSep ((sched m).duties (barCell c) 0 \ ∅) (fun d => (sched m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_own : bigSep ((sched m).duties (ownCell c n) 0 \ ∅) (fun d => (sched m).payload (ownCell c n) 0 d)
    = ownPay m c n := by
  rw [Finset.sdiff_empty, duties_own, bigSep_singleton, payload_own]

end Sched

/-! ## Levels -/

def L (g : GSem nD τ sig) : Finset Unit := if g.1.2 = .tc then {()} else ∅

def levelOf (n : Fin 150) : ℕ :=
  match roleOf n with
  | .recvHop h => 2 + hopStep h
  | .recvMsg _ => 20
  | _ => 0

def lv (g : GSem nD τ sig) (_ : Unit) : ℕ :=
  match g.2 with
  | .reg _ => 1
  | .dma s => match semNo s with | some n => levelOf n | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_own (c : Dev nD) (n : Fin 150) : lv (ownCell c n) () = levelOf n := by
  dsimp only [lv]; rw [semNo_ownSem]

/-! ## What a device owes -/

/-- The cell a step pays into, with how much. -/
def dueOf (c : Dev nD) : Step → Option (GSem nD τ sig × ℕ)
  | .sigLeft => some (barCell (leftDev c), 1)
  | .sigRight => some (barCell (rightDev c), 1)
  | .send h => some (ownCell (hopDev h c) (recvNo h), blockCredit)
  | .msg d => some (ownCell (msgDev d c) (msgRecvNo d), msgCredit)
  | _ => none

/-- The level of the cell a step pays into. -/
def dueLevel : Step → Option ℕ
  | .sigLeft => some 1
  | .sigRight => some 1
  | .send h => some (2 + hopStep h)
  | .msg _ => some 20
  | _ => none

/-- What the steps still to come pay. -/
def owed (c : Dev nD) : List Step → CellTallies nD τ sig Unit
  | [] => 0
  | e :: es => match dueOf c e with
    | some (g, k) => owed c es + tallyAt g () k
    | none => owed c es

/-- Every payment still to come is above level `b`. -/
def above (b : ℕ) (es : List Step) : Bool :=
  es.all fun e => match dueLevel e with | some l => decide (b < l) | none => true

theorem due_level (c : Dev nD) (e : Step) (g : GSem nD τ sig) (k : ℕ) (h : dueOf c e = some (g, k)) :
    dueLevel e = some (lv g ()) ∧ g.1.2 = .tc := by
  cases e <;> simp only [dueOf, Option.some.injEq, Prod.mk.injEq, reduceCtorEq] at h
  all_goals obtain ⟨rfl, -⟩ := h
  · exact ⟨rfl, rfl⟩
  · exact ⟨rfl, rfl⟩
  · rw [lv_own, levelOf, roleOf_recvNo]; exact ⟨rfl, rfl⟩
  · rw [lv_own, levelOf, roleOf_msgRecvNo]; exact ⟨rfl, rfl⟩

theorem owed_pos (c : Dev nD) (es : List Step) (g : GSem nD τ sig) (u : Unit) (h : 0 < owed c es g u) :
    ∃ e ∈ es, ∃ k, dueOf c e = some (g, k) := by
  induction es with
  | nil => exact absurd h (Nat.lt_irrefl 0)
  | cons e es ih =>
    unfold owed at h
    cases hd : dueOf c e with
    | none =>
      rw [hd] at h
      obtain ⟨e', he', hk⟩ := ih h
      exact ⟨e', List.mem_cons_of_mem _ he', hk⟩
    | some gk =>
      obtain ⟨g', k⟩ := gk
      rw [hd] at h
      dsimp only at h
      rw [Pi.add_apply, Finsupp.add_apply, tallyAt_apply] at h
      by_cases hg : g = g' ∧ u = ()
      · exact ⟨e, List.mem_cons_self, k, by rw [hd, hg.1]⟩
      · rw [if_neg hg, Nat.add_zero] at h
        obtain ⟨e', he', hk⟩ := ih h
        exact ⟨e', List.mem_cons_of_mem _ he', hk⟩

/-- A wait on a cell below every payment still to come. -/
theorem mayWait_above (c : Dev nD) (sm : SemLoc sig) (es : List Step) (b : ℕ)
    (hb : lv ((c : Thread nD τ), sm) () ≤ b) (h : above b es = true) :
    (levAts L lv : sProp 𝕄) ⊢ MayWait (c : Thread nD τ) sm () (owed c es) := by
  have key : ∀ g u, 0 < owed c es g u → g.1.2 = .tc ∧ b < lv g u := by
    intro g u hg
    obtain ⟨e, he, k, hk⟩ := owed_pos c es g u hg
    have hl := due_level c e g k hk
    refine ⟨hl.2, ?_⟩
    have := (List.all_eq_true.mp h) e he
    rw [hl.1] at this
    exact of_decide_eq_true this
  refine MayOwe.of_cut (L := L) (lev := lv) b (fun p hp => by rw [Finset.mem_singleton.mp hp, L_tc]; exact Finset.mem_singleton_self _)
    (fun g u hg => by rw [L, if_pos (key g u hg).1]; exact Finset.mem_singleton_self _)
    (fun p hp => by rw [Finset.mem_singleton.mp hp]; exact hb)
    (fun g u hg => (key g u hg).2)

/-! ## The resources between two steps -/

inductive Res
  | xIn | wIn
  | rawOwn (q : Fin 4)
  | rawHop (h : Fin 60)
  | sigTok (right : Bool)
  | barC | barDone
  | hopTok (h : Fin 60)
  | hopDst (h : Fin 60)
  | keep (q : Fin 4) (s : Fin 16)
  | src (h : Fin 60)
  | carry (h : Fin 60)
  | fresh (n : Fin 150) | armed (n : Fin 150) | done (n : Fin 150)
  | wRaw | wCp
  | aRaw | aPiece (d : Fin 15) | aRest
  | gRaw | gOwn | gGot (d : Fin 15)
  | msgTok (d : Fin 15) | msgDst (d : Fin 15)
deriving DecidableEq

def sigDev (right : Bool) (c : Dev nD) : Dev nD := if right then rightDev c else leftDev c

def res (c : Dev nD) : Res → sProp 𝕄
  | .xIn => ((c : Thread nD τ).loc cc0_stg0_0) ↦{fullShare} xstg m c
  | .wIn => ((c : Thread nD τ).loc cc0_stg1_0) ↦{fullShare} wstg m c
  | .rawOwn q => iprop(∃ X, owns (c : Thread nD τ) (piece q 0) fullShare X)
  | .rawHop h => rawAt c h
  | .sigTok right => dutyTok ER (barCell (sigDev right c)) 0 (!right)
  | .barC => iprop(atPos ER (barCell c) 0 ∅ 0 ∗ cred (tallyAt (barCell c) () 2))
  | .barDone => semVal (barCell c) 0
  | .hopTok h => iprop(dutyTok ER (ownCell c (sendNo h)) 0 false ∗ dutyTok ER (ownCell (hopDev h c) (recvNo h)) 0 false)
  | .hopDst h => rawAt (hopDev h c) h
  | .keep q s => owns (c : Thread nD τ) (piece q s) (keepShare q s) (block m (c + s) q)
  | .src h => srcPts m c h
  | .carry h => carried (c + srcSlot h) h
  | .fresh n => atPos ER (ownCell c n) 0 ∅ 0
  | .armed n => iprop(atPos ER (ownCell c n) 0 ∅ 0 ∗ cred (tallyAt (ownCell c n) () (ownAmount n)))
  | .done n => semVal (ownCell c n) 0
  | .wRaw => iprop(∃ f : Buf (Elt F) ((c : Thread nD τ).loc cc0_scratch4), ((c : Thread nD τ).loc cc0_scratch4) ↦{fullShare} f)
  | .wCp => ((c : Thread nD τ).loc cc0_scratch4) ↦{fullShare} weights m c
  | .aRaw => iprop(∃ f : Buf (Elt F) ((c : Thread nD τ).loc cc0_scratch6), ((c : Thread nD τ).loc cc0_scratch6) ↦{fullShare} f)
  | .aPiece d => aPts m c (msgShare d.val)
  | .aRest => aPts m c (restShare 15)
  | .gRaw => grawAt c 0
  | .gOwn => gPts m c 0
  | .gGot d => gPts m c (msgSlot d)
  | .msgTok d => iprop(dutyTok ER (ownCell c (msgSendNo d)) 0 false ∗ dutyTok ER (ownCell (msgDev d c) (msgRecvNo d)) 0 false)
  | .msgDst d => grawAt (msgDev d c) (msgSlot d)

/-- The hop that passes on what hop `h` brought, if any. -/
def nextHop (h : Fin 60) : Option (Fin 60) := if hopStep h + 1 < dirCount h then some (h + 1) else none

/-- The message whose destination stays with the receiver of a hop of stream `0`. -/
def msgOf (h : Fin 60) : Fin 15 := Fin.ofNat 15 (if goesRight h then 14 - hopStep h else hopStep h)

/-- What a step uses up, and what it leaves. -/
def takes : Step → List Res
  | .sigLeft => .sigTok false :: (hopsOf true).map .rawHop
  | .sigRight => .sigTok true :: (hopsOf false).map .rawHop
  | .meet => [.barC]
  | .put q => [.xIn, .rawOwn q]
  | .send h => [.src h, .carry h, .hopDst h, .hopTok h, .fresh (sendNo h)]
  | .putW => [.wIn, .wRaw]
  | .gemm q r => [.keep q r, .wCp]
  | .got h => [.armed (recvNo h)]
  | .sent h => [.armed (sendNo h)]
  | .putA => [.aRaw]
  | .putG => [.gRaw]
  | .msg d => [.aPiece d, .msgDst d, .msgTok d, .fresh (msgSendNo d)]
  | .msgSent d => [.armed (msgSendNo d)]
  | .msgGot d => [.armed (msgRecvNo d)]

def leaves : Step → List Res
  | .sigLeft => []
  | .sigRight => []
  | .meet => .barDone :: ((hopsOf false).map .hopDst ++ (hopsOf true).map .hopDst)
  | .put q => [.xIn, .keep q 0, .src (hop q true 0), .src (hop q false 0)]
  | .send h => [.armed (sendNo h)]
  | .putW => [.wIn, .wCp]
  | .gemm q r => [.keep q r, .wCp]
  | .got h => [.done (recvNo h), .keep (hopStream h) (dstSlot h)] ++
      (match nextHop h with | some h' => [.src h', .carry h'] | none => []) ++
      (if hopStream h = 0 then [.msgDst (msgOf h)] else [])
  | .sent h => [.done (sendNo h), .src h]
  | .putA => .aRest :: (List.finRange 15).map .aPiece
  | .putG => [.gOwn]
  | .msg d => [.armed (msgSendNo d)]
  | .msgSent d => [.done (msgSendNo d), .aPiece d]
  | .msgGot d => [.done (msgRecvNo d), .gGot d]

def isGemm : Step → Bool
  | .gemm _ _ => true
  | _ => false

/-- What else a step asks of the steps after it. -/
def ready (e : Step) (es : List Step) : Bool :=
  match e with
  | .meet => above 1 es
  | .got h => above (2 + hopStep h) es
  | .sent _ => above 0 es
  | .msgSent _ => above 0 es
  | .msgGot _ => above 20 es
  | .putA => es.all (fun e => !isGemm e)
  | .putG => es.all (fun e => !isGemm e)
  | _ => true

/-- Take the listed resources out of a list. -/
def takeOne (r : Res) : List Res → Option (List Res)
  | [] => none
  | s :: ss => if r = s then some ss else (takeOne r ss).map (s :: ·)

def takeAll : List Res → List Res → Option (List Res)
  | [], S => some S
  | r :: rs, S => (takeOne r S).bind (takeAll rs)

/-- The resources after a list of steps, each step finding what it uses. -/
def flow : List Step → List Res → Option (List Res)
  | [], S => some S
  | e :: es, S => if ready e es then (takeAll (takes e) S).bind fun S' => flow es (leaves e ++ S') else none

/-- The resources a device starts with. -/
def startRes : List Res :=
  [.xIn, .wIn, .sigTok false, .sigTok true, .barC, .wRaw, .aRaw, .gRaw] ++
  (List.finRange 4).map .rawOwn ++ (List.finRange 60).map .rawHop ++ (List.finRange 60).map .hopTok ++
  (List.finRange 15).map .msgTok ++
  (List.finRange 60).map (fun h => .fresh (sendNo h)) ++ (List.finRange 60).map (fun h => .armed (recvNo h)) ++
  (List.finRange 15).map (fun d => .fresh (msgSendNo d)) ++ (List.finRange 15).map (fun d => .armed (msgRecvNo d)) ++
  order.map (fun p => .carry (hop p.1 p.2 0))

/-- The hops that read slot `s` of stream `q`. -/
def readersOf (q : Fin 4) (s : Fin 16) : List (Fin 60) := (List.finRange 60).filter fun h => hopStream h == q && srcSlot h == s

/-- The resources it ends with. -/
def endRes : List Res :=
  [.xIn, .wIn, .barDone, .wCp, .aRest, .gOwn] ++
  (List.finRange 15).map .aPiece ++ (List.finRange 15).map .gGot ++
  (List.finRange 4).flatMap (fun q => (List.finRange 16).flatMap fun s => .keep q s :: (readersOf q s).map .src) ++
  (List.finRange 150).map .done

def endsWell : Bool :=
  match flow steps startRes with
  | some S => (takeAll endRes S).isSome
  | none => false

end Cert.AllGather

end
-- ==== Proof.Common.lean ====
/- What every step of the exchange uses: lists of resources, shares, slots, the persistent records. -/
module

public import proofs.«01_k».proof.Proof.Protocol

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## Lists of resources -/

section Lists
variable {ι κ : Type} {M : Type} [URA M] (Φ : ι → sProp M)

theorem stars_cons (i : ι) (l : List ι) : stars Φ (i :: l) = iprop(Φ i ∗ stars Φ l) := rfl
theorem stars_nil : stars Φ ([] : List ι) = iprop(emp) := rfl

theorem stars_append (l l' : List ι) : stars Φ (l ++ l') = iprop(stars Φ l ∗ stars Φ l') := by
  induction l with
  | nil =>
    have h1 : stars Φ l' ⊢ iprop(emp ∗ stars Φ l') := BIClass.emp_sep.2
    have h2 : iprop(emp ∗ stars Φ l') ⊢ stars Φ l' := BIClass.emp_sep.1
    exact BI.equiv_iff.mp ⟨h1, h2⟩
  | cons i is ih =>
    rw [List.cons_append, stars_cons, ih, stars_cons]
    have h1 : iprop(Φ i ∗ stars Φ is ∗ stars Φ l') ⊢ iprop((Φ i ∗ stars Φ is) ∗ stars Φ l') := Laws.sep_assoc.2
    have h2 : iprop((Φ i ∗ stars Φ is) ∗ stars Φ l') ⊢ iprop(Φ i ∗ stars Φ is ∗ stars Φ l') := Laws.sep_assoc.1
    exact BI.equiv_iff.mp ⟨h1, h2⟩

theorem stars_map (f : κ → ι) (l : List κ) : stars Φ (l.map f) = stars (fun k => Φ (f k)) l := by
  induction l with
  | nil => rfl
  | cons i is ih => rw [List.map_cons, stars_cons, stars_cons, ih]

theorem stars_mono {Ψ : ι → sProp M} (l : List ι) (h : ∀ i ∈ l, Φ i ⊢ Ψ i) : stars Φ l ⊢ stars Ψ l := by
  induction l with
  | nil => exact Entails.refl _
  | cons i is ih =>
    exact BIClass.sep_mono (h i List.mem_cons_self) (ih fun j hj => h j (List.mem_cons_of_mem _ hj))

theorem stars_congr {Ψ : ι → sProp M} (l : List ι) (h : ∀ i ∈ l, Φ i = Ψ i) : stars Φ l = stars Ψ l := by
  induction l with
  | nil => rfl
  | cons i is ih =>
    rw [stars_cons, stars_cons, h i List.mem_cons_self, ih fun j hj => h j (List.mem_cons_of_mem _ hj)]

end Lists

theorem takeOne_sound (c : Dev nD) (r : Res) : ∀ S S', takeOne r S = some S' →
    stars (res m c) S ⊢ iprop(res m c r ∗ stars (res m c) S') := by
  intro S
  induction S with
  | nil => intro S' h; exact absurd h (by simp [takeOne])
  | cons s ss ih =>
    intro S' h
    unfold takeOne at h
    by_cases hrs : r = s
    · rw [if_pos hrs] at h
      obtain rfl := Option.some.inj h
      subst hrs; exact Entails.refl _
    · rw [if_neg hrs] at h
      obtain ⟨T, hT, rfl⟩ := Option.map_eq_some_iff.mp h
      rw [stars_cons, stars_cons]
      iintro ⟨Hs, Hss⟩
      ihave H := (ih T hT) $$ Hss
      icases H with ⟨Hr, HT⟩
      isplitl [Hr]; · iexact Hr
      isplitl [Hs] <;> iassumption

theorem takeAll_sound (c : Dev nD) (rs : List Res) : ∀ S S', takeAll rs S = some S' →
    stars (res m c) S ⊢ iprop(stars (res m c) rs ∗ stars (res m c) S') := by
  induction rs with
  | nil =>
    intro S S' h
    obtain rfl := Option.some.inj h
    exact BIClass.emp_sep.2
  | cons r rs ih =>
    intro S S' h
    unfold takeAll at h
    obtain ⟨T, hT, h'⟩ := Option.bind_eq_some_iff.mp h
    rw [stars_cons]
    iintro H
    ihave H := (takeOne_sound m c r S T hT) $$ H
    icases H with ⟨Hr, HT⟩
    ihave H := (ih T S' h') $$ HT
    icases H with ⟨Hrs, HS⟩
    isplitl [Hr Hrs]
    · isplitl [Hr] <;> iassumption
    iexact HS

/-! ## Cells and records -/

/-- The cells, numbered: the barrier's and the kernel's own. -/
abbrev cellAt (p : Dev nD × Option (Fin 150)) : GSem nD τ sig :=
  match p.2 with
  | none => barCell p.1
  | some n => ownCell p.1 n

/-- What every device knows throughout: the cells' invariants, that round `0` is reached, the levels. -/
def ctx (K : Dev nD × Option (Fin 150) → ℕ) : sProp 𝕄 :=
  iprop((bigSep Finset.univ fun p => cellInv ER (sched m) (K p) (cellAt p))
    ∗ (bigSep Finset.univ fun p : Dev nD × Option (Fin 150) => reached ER (cellAt p) 0) ∗ levAts L lv)

instance ctx_persistent (K) : Persistent (ctx m K) := by unfold ctx; infer_instance

section Records
variable (K : Dev nD × Option (Fin 150) → ℕ) (c : Dev nD) (n : Fin 150)

theorem inv_at (p : Dev nD × Option (Fin 150)) :
    (bigSep Finset.univ fun p => (cellInv ER (sched m) (K p) (cellAt p) : sProp 𝕄)) ⊢ cellInv ER (sched m) (K p) (cellAt p) :=
  bigSep_elim (Finset.mem_univ p)
theorem reached_at (p : Dev nD × Option (Fin 150)) :
    (bigSep Finset.univ fun p => (reached ER (cellAt p) 0 : sProp 𝕄)) ⊢ reached ER (cellAt p) 0 :=
  bigSep_elim (Finset.mem_univ p)

theorem ctx_bar : ctx m K ⊢ iprop(cellInv ER (sched m) (K (c, none)) (barCell c) ∗ reached ER (barCell c) 0) := by
  unfold ctx
  iintro ⟨H1, H2, -⟩
  isplitl [H1]
  · iapply (inv_at m K (c, none)); iexact H1
  · iapply (reached_at (c, none)); iexact H2

theorem ctx_own : ctx m K ⊢ iprop(cellInv ER (sched m) (K (c, some n)) (ownCell c n) ∗ reached ER (ownCell c n) 0) := by
  unfold ctx
  iintro ⟨H1, H2, -⟩
  isplitl [H1]
  · iapply (inv_at m K (c, some n)); iexact H1
  · iapply (reached_at (c, some n)); iexact H2

theorem ctx_lev : ctx m K ⊢ levAts L lv := by
  unfold ctx
  iintro ⟨-, -, H⟩
  iexact H

end Records

/-! ## Slots -/

section Slots
variable (c : Dev nD) (q : Fin 4) (s : Fin 16)

theorem owns_share {sp : Space} {sh : Shape} {e : EltTy} (M : Memref sig .tc sp sh e) (p : PosShare TreeShare) (X : sh.Idx → Elt F e) :
    (owns (c : Thread nD τ) M p X : sProp 𝕄) ⊢ iprop(owns (c : Thread nD τ) M p.left X ∗ owns (c : Thread nD τ) M p.right X) := by
  unfold owns
  iintro ⟨%f, %hf, H⟩
  ihave H := (pointsTo_share (PosShare.mem_left_op_right p)).1 $$ H
  icases H with ⟨H1, H2⟩
  isplitl [H1]
  · iexists f; isplitr; · (ipureintro; exact hf)
    iexact H1
  · iexists f; isplitr; · (ipureintro; exact hf)
    iexact H2

theorem piece_read_of_slot (f g : (ringBuf q).view.ty.Contents (Elt F)) (s' : Fin 16) (g' : (ringBuf q).view.ty.Contents (Elt F))
    (h : (slot q s).view.read (Elt F) f = (slot q s').view.read (Elt F) g') :
    (piece q s).view.read (Elt F) f = (piece q s').view.read (Elt F) g' := by
  have h1 : shapeCast S64x4096 ((piece q s).view.read (Elt F) f) shapeCasts_S1x64x4096_S64x4096
      = shapeCast S64x4096 ((piece q s').view.read (Elt F) g') shapeCasts_S1x64x4096_S64x4096 := h
  have h2 := congrArg (fun z => shapeCast S1x64x4096 z shapeCasts_S64x4096_S1x64x4096) h1
  simpa only [shapeCast_shapeCast] using h2

theorem slot_set : (slot q s).view.set = (piece q s).view.set := View.set_reshape _ _
theorem gslot_set : (gslot s).view.set = (gpiece s).view.set := View.set_reshape _ _

end Slots

theorem dev_add_zero : ∀ c : Dev nD, c + 0 = c := by decide
theorem hopDev_leftDev : ∀ c : Dev nD, ∀ h : Fin 60, goesRight h = true → hopDev h (leftDev c) = c := by decide +kernel
theorem hopDev_rightDev : ∀ c : Dev nD, ∀ h : Fin 60, goesRight h = false → hopDev h (rightDev c) = c := by decide +kernel
theorem hop_origin : ∀ c : Dev nD, ∀ h : Fin 60, hopDev h c + dstSlot h = c + srcSlot h := by decide +kernel

/-! ## One step's statement -/

/-- The running maximum after a step. -/
def accStep (c : Dev nD) : Step → Option (F .f32) → Option (F .f32)
  | .gemm q r, a => some (peakJoin a (peakOf (prod m c q r)))
  | _, a => a

/-- The output buffer after a step. -/
def outStep (c : Dev nD) (e : Step) (fo : (cc0_stg2_0 : Ref sig .tc).ty.Contents (Elt F)) : (cc0_stg2_0 : Ref sig .tc).ty.Contents (Elt F) :=
  match e with
  | .gemm q r =>
    (oBuf.access (Rect.unit (s := S4096x512) (k0_off1 c (BitVec.ofNat 32 r.val) (BitVec.ofNat 32 (64 * q.val))) S64x512.size (k0_off1_inb c r q))
      : View sig .tc _ _ _).write (Elt F) fo (prod m c q r) Finset.univ
  | _ => fo

def oPts (c : Dev nD) (fo : (cc0_stg2_0 : Ref sig .tc).ty.Contents (Elt F)) : sProp 𝕄 := ((c : Thread nD τ).loc cc0_stg2_0) ↦{fullShare} fo

section Statement
variable (K : Dev nD × Option (Fin 150) → ℕ) (c : Dev nD) (e : Step) (es : List Step) (a : Option (F .f32))
  (fo : (cc0_stg2_0 : Ref sig .tc).ty.Contents (Elt F)) (W : Waits sig Unit)

def stepPre : sProp 𝕄 :=
  iprop(ctx m K ∗ owes (c : Thread nD τ) (owed c (e :: es)) W ∗ stars (res m c) (takes e) ∗ oPts c fo)

def stepPost (a' : Option (F .f32)) : sProp 𝕄 :=
  iprop(⌜a' = accStep m c e a⌝ ∗ (∃ W', owes (c : Thread nD τ) (owed c es) W') ∗ stars (res m c) (leaves e) ∗ oPts c (outStep m c e fo))

/-- A step is sound: from what it takes it runs to what it leaves. -/
def Sound : Prop :=
  ∀ (W : Waits sig Unit), stepPre m K c e es fo W
    ⊢ wp frame (wpE (defs₀ (F := F)) 𝒱₀ (c : Thread nD τ) none) Set.univ (exec c e a) (stepPost m c e es a fo)

end Statement

end Cert.AllGather

end
-- ==== Proof.Local.lean ====
/- The steps that only touch the device's own buffers. -/
module

public import proofs.«01_k».proof.Proof.Common

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 150) → ℕ) (c : Dev nD) (es : List Step) (a : Option (F .f32))
  (fo : (cc0_stg2_0 : Ref sig .tc).ty.Contents (Elt F))

/-! ## Loads and stores of an owned rectangle -/

section Access
variable {s : Shape} {e : EltTy} (M : Memref sig .tc .vmem s e) (r : Rect s) (hr : ∀ a, r.stride a = 1) {α : Type}

theorem load_piece {Q : α → sProp 𝕄} (q : PosShare TreeShare) (X : r.shape.Idx → Elt F e) {hl : M.view.LoadsAt r.toLoadRect}
    {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X
            -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold owns
  iintro ⟨%f, %hf, H⟩ Hk
  subst hf
  iapply (wp_load 𝒱₀ (c : Thread nD τ) none Set.univ (m := M) (S := (M.slice r hr).view.set) (View.set_slice _ _).ge) $$ H
  iintro H
  iapply Hk
  iexists f
  isplitr; · (ipureintro; rfl)
  iexact H

theorem store_piece {Q : α → sProp 𝕄} (X w : r.shape.Idx → Elt F e) {hs : (M.access r : View sig .tc _ _ _).Stores Finset.univ}
    {he : (Finset.univ : Finset r.shape.Idx) = Finset.univ ∨ ∀ a, r.stride a = 1}
    {k : PUnit → Prog (TpuEff nD τ sig (Elt F) Λ₀ .tc) α} :
    (owns (c : Thread nD τ) (M.slice r hr) fullShare X : sProp 𝕄)
      ⊢ iprop((owns (c : Thread nD τ) (M.slice r hr) fullShare w
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hs he) k) Q) := by
  unfold owns
  iintro ⟨%f, %hf, H⟩ Hk
  iapply (wp_store 𝒱₀ (c : Thread nD τ) none Set.univ (m := M) (r := r) (Mk := Finset.univ) (S := (M.slice r hr).view.set) (by exact Finset.Subset.refl _)) $$ H
  iintro H
  iapply Hk
  iexists ((M.access r : View sig .tc _ _ _).write (Elt F) f w Finset.univ)
  isplitr
  · ipureintro; exact View.read_write_univ ..
  iexact H

end Access

/-! ## Storing the shard and the weights -/

theorem own_shares : ∀ q : Fin 4, keepShare q 0 = fullShare.left ∧ srcShare (hop q true 0) = fullShare.right.left
    ∧ srcShare (hop q false 0) = fullShare.right.right := by
  have h1 : ∀ q : Fin 4, passedOn q 0 = true := by decide +kernel
  have h2 : ∀ (q : Fin 4) (b : Bool), hopStep (hop q b 0) = 0 ∧ goesRight (hop q b 0) = b := by decide +kernel
  intro q
  unfold keepShare srcShare
  rw [if_pos (h1 q), if_pos (h2 q true).1, if_pos (h2 q false).1, if_pos (h2 q true).2, if_neg (by rw [(h2 q false).2]; exact Bool.false_ne_true)]
  exact ⟨rfl, rfl, rfl⟩

theorem first_hop : ∀ (q : Fin 4) (b : Bool), hopStream (hop q b 0) = q ∧ srcSlot (hop q b 0) = 0 := by decide +kernel

theorem src_first (q : Fin 4) (b : Bool) (p : PosShare TreeShare) (hp : srcShare (hop q b 0) = p) :
    srcPts m c (hop q b 0) = owns (c : Thread nD τ) (piece q 0) p (block m (c + 0) q) := by
  have h := first_hop q b
  unfold srcPts
  rw [hp, h.1, h.2]

theorem sound_put (q : Fin 4) : Sound m K c (.put q) es a fo := by
  intro W
  unfold exec stepPre
  simp only [Prog.lift, Prog.bind_op, Prog.bind_ret, Prog.pure_eq_ret]
  rw [show takes (.put q) = [.xIn, .rawOwn q] from rfl, stars_cons, stars_cons, stars_nil]
  simp only [res]
  iintro ⟨-, HO, ⟨Hx, ⟨%X, Hown⟩, -⟩, Hout⟩
  iapply (wp_load 𝒱₀ (c : Thread nD τ) none Set.univ (m := xBuf) (Finset.subset_univ _)) $$ Hx; iintro Hx
  iapply (load_piece c (ringBuf q) (slotRect 0) (fun _ => rfl) fullShare X) $$ Hown; iintro Hown
  iapply (store_piece c (ringBuf q) (slotRect 0) (fun _ => rfl) X) $$ Hown; iintro Hown
  rw [wp_ret]; imodintro
  unfold stepPost
  isplitr; · (ipureintro; rfl)
  isplitl [HO]; · iexists W; iexact HO
  isplitr [Hout]
  · rw [show leaves (.put q) = [.xIn, .keep q 0, .src (hop q true 0), .src (hop q false 0)] from rfl, stars_cons, stars_cons,
      stars_cons, stars_cons, stars_nil]
    simp only [res]
    rw [src_first m c q true _ (own_shares q).2.1, src_first m c q false _ (own_shares q).2.2, (own_shares q).1, dev_add_zero]
    ihave H := (owns_share c (piece q 0) fullShare (block m c q)) $$ [Hown]
    · iexact Hown
    icases H with ⟨H1, H2⟩
    ihave H := (owns_share c (piece q 0) fullShare.right (block m c q)) $$ H2
    icases H with ⟨H2, H3⟩
    isplitl [Hx]; · iexact Hx
    isplitl [H1]; · iexact H1
    isplitl [H2]; · iexact H2
    isplitl [H3]; · iexact H3
    iempintro
  iexact Hout

theorem z2 : (![0, 0] : Fin 2 → Nat) = fun _ => 0 := funext fun a => by fin_cases a <;> rfl

theorem sound_putW : Sound m K c .putW es a fo := by
  intro W
  unfold exec stepPre
  simp only [Prog.lift, Prog.bind_op, Prog.bind_ret, Prog.pure_eq_ret]
  rw [show takes .putW = [.wIn, .wRaw] from rfl, stars_cons, stars_cons, stars_nil]
  simp only [res]
  iintro ⟨-, HO, ⟨Hw, ⟨%f, Hc⟩, -⟩, Hout⟩
  iapply (wp_load 𝒱₀ (c : Thread nD τ) none Set.univ (m := wBuf) (Finset.subset_univ _)) $$ Hw; iintro Hw
  iapply (wp_load 𝒱₀ (c : Thread nD τ) none Set.univ (m := wCopy) (Finset.subset_univ _)) $$ Hc; iintro Hc
  iapply (wp_store 𝒱₀ (c : Thread nD τ) none Set.univ (m := wCopy) (r := Rect.unit (s := S4096x512) ![0, 0] S4096x512.size inb_S4096x512_S4096x512_0_0) (Mk := Finset.univ) (Finset.subset_univ _)) $$ Hc; iintro Hc
  ihave Hc := (Entails.of_eq (congrArg (fun z => (((c : Thread nD τ).loc cc0_scratch4) ↦{fullShare} z : sProp 𝕄))
    (Memref.write_access_unit_zero_univ (Elt F) cc0_scratch4 z2 inb_S4096x512_S4096x512_0_0 f (weights m c)))) $$ [Hc]
  · iexact Hc
  rw [wp_ret]; imodintro
  unfold stepPost
  isplitr; · (ipureintro; rfl)
  isplitl [HO]; · iexists W; iexact HO
  isplitr [Hout]
  · rw [show leaves .putW = [.wIn, .wCp] from rfl, stars_cons, stars_cons, stars_nil]
    simp only [res]
    isplitl [Hw]; · iexact Hw
    isplitl [Hc]; · iexact Hc
    iempintro
  iexact Hout

/-! ## A product -/

theorem read_weights : (wCopy : Memref sig .tc .vmem S4096x512 .bf16).view.readAt (Elt F)
    (Rect.unit (s := S4096x512) ![0, 0] S4096x512.size inb_S4096x512_S4096x512_0_0).toLoadRect (weights m c) = weights m c :=
  Memref.readAt_unit_zero (Elt F) cc0_scratch4 z2 inb_S4096x512_S4096x512_0_0 _

theorem sound_gemm (q : Fin 4) (r : Fin 16) : Sound m K c (.gemm q r) es a fo := by
  intro W
  unfold exec stepPre
  simp only [Prog.lift, Prog.bind_op, Prog.bind_ret, Prog.pure_eq_ret]
  rw [show takes (.gemm q r) = [.keep q r, .wCp] from rfl, stars_cons, stars_cons, stars_nil]
  simp only [res]
  unfold oPts
  iintro ⟨-, HO, ⟨Hk, Hw, -⟩, Hout⟩
  iapply (load_piece c (ringBuf q) (slotRect r) (fun _ => rfl) (keepShare q r) (block m (c + r) q)) $$ Hk; iintro Hk
  iapply (wp_load 𝒱₀ (c : Thread nD τ) none Set.univ (m := wCopy) (Finset.subset_univ _)) $$ Hw; iintro Hw
  rw [read_weights]
  iapply (wp_load 𝒱₀ (c : Thread nD τ) none Set.univ (m := oBuf) (Finset.subset_univ _)) $$ Hout; iintro Hout
  iapply (wp_store 𝒱₀ (c : Thread nD τ) none Set.univ (m := oBuf) (r := Rect.unit (s := S4096x512) (k0_off1 c (BitVec.ofNat 32 r.val) (BitVec.ofNat 32 (64 * q.val))) S64x512.size (k0_off1_inb c r q)) (Mk := Finset.univ) (Finset.subset_univ _)) $$ Hout; iintro Hout
  rw [wp_ret]; imodintro
  unfold stepPost
  isplitr; · (ipureintro; rfl)
  isplitl [HO]; · iexists W; iexact HO
  isplitr [Hout]
  · rw [show leaves (.gemm q r) = [.keep q r, .wCp] from rfl, stars_cons, stars_cons, stars_nil]
    simp only [res]
    isplitl [Hk]; · iexact Hk
    isplitl [Hw]; · iexact Hw
    iempintro
  unfold oPts
  iexact Hout

/-! ## The maximum, stored and shared out -/

theorem aPts_split (k : ℕ) : aPts m c (restShare k) ⊢ iprop(aPts m c (msgShare k) ∗ aPts m c (restShare (k + 1))) := by
  unfold aPts msgShare
  exact (pointsTo_share (PosShare.mem_left_op_right (restShare k))).1

theorem aPts_shares (n : ℕ) : aPts m c fullShare
    ⊢ iprop(aPts m c (restShare n) ∗ stars (fun k => aPts m c (msgShare k)) (List.range n)) := by
  induction n with
  | zero =>
    rw [List.range_zero, stars_nil]
    iintro H; isplitl [H]; · iexact H
    iempintro
  | succ n ih =>
    rw [List.range_succ, stars_append, stars_cons, stars_nil]
    iintro H
    ihave H := ih $$ H
    icases H with ⟨Hr, Hs⟩
    ihave H := (aPts_split m c n) $$ Hr
    icases H with ⟨Hm, Hr⟩
    isplitl [Hr]; · iexact Hr
    isplitl [Hs]; · iexact Hs
    isplitl [Hm]; · iexact Hm
    iempintro

theorem sound_putA (ha : a.getD (Scalar.ofBits .f32 0#32) = peak m c) : Sound m K c .putA es a fo := by
  intro W
  unfold exec stepPre
  simp only [Prog.lift, Prog.bind_op, Prog.bind_ret, Prog.pure_eq_ret]
  rw [show takes .putA = [.aRaw] from rfl, stars_cons, stars_nil, ha]
  simp only [res]
  iintro ⟨-, HO, ⟨⟨%f, Ha⟩, -⟩, Hout⟩
  iapply (wp_load 𝒱₀ (c : Thread nD τ) none Set.univ (m := aBuf) (Finset.subset_univ _)) $$ Ha; iintro Ha
  iapply (wp_store 𝒱₀ (c : Thread nD τ) none Set.univ (m := aBuf) (r := Rect.unit (s := S8x128) ![0, 0] S8x128.size inb_S8x128_S8x128_0_0) (Mk := Finset.univ) (Finset.subset_univ _)) $$ Ha; iintro Ha
  ihave Ha := (Entails.of_eq (congrArg (fun z => (((c : Thread nD τ).loc cc0_scratch6) ↦{fullShare} z : sProp 𝕄))
    (Memref.write_access_unit_zero_univ (Elt F) cc0_scratch6 z2 inb_S8x128_S8x128_0_0 f (aVal (peak m c))))) $$ [Ha]
  · iexact Ha
  ihave Ha := (aPts_shares m c 15) $$ [Ha]
  · unfold aPts; iexact Ha
  icases Ha with ⟨Hr, Hs⟩
  rw [wp_ret]; imodintro
  unfold stepPost
  isplitr; · (ipureintro; rfl)
  isplitl [HO]; · iexists W; iexact HO
  isplitr [Hout]
  · rw [show leaves .putA = .aRest :: (List.finRange 15).map .aPiece from rfl, stars_cons, stars_map]
    simp only [res]
    isplitl [Hr]; · iexact Hr
    rw [show List.range 15 = (List.finRange 15).map Fin.val from by decide, stars_map]
    exact Entails.refl _
  iexact Hout

theorem sound_putG (ha : a.getD (Scalar.ofBits .f32 0#32) = peak m c) : Sound m K c .putG es a fo := by
  intro W
  unfold exec stepPre
  simp only [Prog.lift, Prog.bind_op, Prog.bind_ret, Prog.pure_eq_ret]
  rw [show takes .putG = [.gRaw] from rfl, stars_cons, stars_nil, ha]
  simp only [res, grawAt]
  iintro ⟨-, HO, ⟨⟨%X, Hg⟩, -⟩, Hout⟩
  iapply (load_piece c gBuf (gslotRect 0) (fun _ => rfl) fullShare X) $$ Hg; iintro Hg
  iapply (store_piece c gBuf (gslotRect 0) (fun _ => rfl) X) $$ Hg; iintro Hg
  rw [wp_ret]; imodintro
  unfold stepPost
  isplitr; · (ipureintro; rfl)
  isplitl [HO]; · iexists W; iexact HO
  isplitr [Hout]
  · rw [show leaves .putG = [.gOwn] from rfl, stars_cons, stars_nil]
    simp only [res, gPts]
    rw [dev_add_zero]
    isplitl [Hg]; · iexact Hg
    iempintro
  iexact Hout

end Cert.AllGather

end
-- ==== Proof.Exchange.lean ====
/- The steps that signal, wait and copy. -/
module

public import proofs.«01_k».proof.Proof.Common

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 150) → ℕ) (c : Dev nD) (es : List Step) (a : Option (F .f32))
  (fo : (cc0_stg2_0 : Ref sig .tc).ty.Contents (Elt F))

theorem res_eqSrc (h) : res m c (.src h) = srcPts m c h := rfl
theorem res_eqAPiece (d : Fin 15) : res m c (.aPiece d) = aPts m c (msgShare d.val) := rfl
theorem res_eqGGot (d) : res m c (.gGot d) = gPts m c (msgSlot d) := rfl
theorem res_eqKeep (q s) : res m c (.keep q s) = owns (c : Thread nD τ) (piece q s) (keepShare q s) (block m (c + s) q) := rfl
theorem res_eqCarry (h) : res m c (.carry h) = carried (c + srcSlot h) h := rfl

/-! ## The signals -/

theorem hopsOf_dir (b : Bool) (h : Fin 60) (hh : h ∈ hopsOf b) : goesRight h = b := by
  unfold hopsOf at hh
  exact eq_of_beq (List.mem_filter.mp hh).2

theorem raws_right : stars (rawAt (F := F) c) (hopsOf true) = barPay (leftDev c) true := by
  unfold barPay
  exact stars_congr _ _ fun h hh => by rw [hopDev_leftDev c h (hopsOf_dir true h hh)]
theorem raws_left : stars (rawAt (F := F) c) (hopsOf false) = barPay (rightDev c) false := by
  unfold barPay
  exact stars_congr _ _ fun h hh => by rw [hopDev_rightDev c h (hopsOf_dir false h hh)]

theorem sound_sigLeft : Sound m K c .sigLeft es a fo := by
  intro W
  unfold exec stepPre
  simp only [semSignalWord, Prog.lift, Prog.bind_op, Prog.bind_ret, Prog.pure_eq_ret]
  rw [show takes .sigLeft = .sigTok false :: (hopsOf true).map .rawHop from rfl, stars_cons, stars_map]
  simp only [res, sigDev, if_neg Bool.false_ne_true, Bool.not_false]
  iintro ⟨#Hctx, HO, ⟨Htok, Hraw⟩, Hout⟩
  ihave H := (ctx_bar m K (leftDev c)) $$ Hctx
  icases H with ⟨#HI, #HR⟩
  iapply (Rounds.wp_signal 𝒱₀ ER (sched m) (c : Thread nD τ) none (dst := (leftDev c : Thread nD τ)) (κ := K (leftDev c, none))
      (d := true) (by rw [duties_bar]; exact Finset.mem_univ _) ((amount_bar m (leftDev c) true).trans (by decide)) () (owed c es) rfl)
    $$ [HO Htok Hraw]
  · isplitr; · iexact HI
    isplitl [HO]; · iexact HO
    isplitl [Htok]; · iexact Htok
    isplitl [Hraw]
    · rw [payload_bar, ← raws_right]; iexact Hraw
    iexact HR
  iintro HO
  rw [wp_ret]; imodintro
  unfold stepPost
  isplitr; · (ipureintro; rfl)
  isplitl [HO]; · iexists W; iexact HO
  isplitr; · unfold leaves stars; iempintro
  iexact Hout

theorem sound_sigRight : Sound m K c .sigRight es a fo := by
  intro W
  unfold exec stepPre
  simp only [semSignalWord, Prog.lift, Prog.bind_op, Prog.bind_ret, Prog.pure_eq_ret]
  rw [show takes .sigRight = .sigTok true :: (hopsOf false).map .rawHop from rfl, stars_cons, stars_map]
  simp only [res, sigDev, if_true, Bool.not_true]
  iintro ⟨#Hctx, HO, ⟨Htok, Hraw⟩, Hout⟩
  ihave H := (ctx_bar m K (rightDev c)) $$ Hctx
  icases H with ⟨#HI, #HR⟩
  iapply (Rounds.wp_signal 𝒱₀ ER (sched m) (c : Thread nD τ) none (dst := (rightDev c : Thread nD τ)) (κ := K (rightDev c, none))
      (d := false) (by rw [duties_bar]; exact Finset.mem_univ _) ((amount_bar m (rightDev c) false).trans (by decide)) () (owed c es) rfl)
    $$ [HO Htok Hraw]
  · isplitr; · iexact HI
    isplitl [HO]; · iexact HO
    isplitl [Htok]; · iexact Htok
    isplitl [Hraw]
    · rw [payload_bar, ← raws_left]; iexact Hraw
    iexact HR
  iintro HO
  rw [wp_ret]; imodintro
  unfold stepPost
  isplitr; · (ipureintro; rfl)
  isplitl [HO]; · iexists W; iexact HO
  isplitr; · unfold leaves stars; iempintro
  iexact Hout

theorem sound_meet (hr : ready .meet es = true) : Sound m K c .meet es a fo := by
  intro W
  unfold exec stepPre
  simp only [semWaitWord, Prog.lift, Prog.bind_op, Prog.bind_ret, Prog.pure_eq_ret]
  rw [show takes .meet = [.barC] from rfl, stars_cons, stars_nil, show owed c (.meet :: es) = owed c es from rfl]
  simp only [res]
  iintro ⟨#Hctx, HO, ⟨⟨Hat, Hcr⟩, -⟩, Hout⟩
  ihave #Hlev := (ctx_lev m K) $$ Hctx
  ihave H := (ctx_bar m K c) $$ Hctx
  icases H with ⟨#HI, #HR⟩
  iapply (Rounds.wp_wait_rest_token 𝒱₀ ER (sched m) (c : Thread nD τ) none (κ := K (c, none))
      (wpE_semWait_eq 𝒱₀ (c : Thread nD τ) none Set.univ) (Set.mem_univ _) () (O := owed c es) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait_above c (.reg barSem) es 1 le_rfl hr)
      iexact Hlev
    iexact Hat
  iintro ⟨HO, Hat, -, Hpay⟩
  ihave Hp := (Entails.of_eq (rest_bar m c)) $$ Hpay
  icases Hp with ⟨HpF, HpT⟩
  imod (Rounds.cell_close ER (sched m) (Set.mem_univ (K (c, none))) (fun h => h) (R := 0 + 1) (duties_later m (barCell c))) $$ [Hat] with Hz
  · isplitr; · iexact HI
    iexact Hat
  rw [wp_ret]; imodintro
  unfold stepPost
  isplitr; · (ipureintro; rfl)
  isplitl [HO]; · iexists _; iexact HO
  isplitl [Hz HpF HpT]
  · rw [show leaves .meet = .barDone :: ((hopsOf false).map .hopDst ++ (hopsOf true).map .hopDst) from rfl, stars_cons, stars_append, stars_map, stars_map]
    simp only [res]
    isplitl [Hz]; · iexact Hz
    isplitl [HpF]
    · unfold barPay; iexact HpF
    · unfold barPay; iexact HpT
  iexact Hout

/-! ## Waits on the kernel's own semaphores -/

/-- A wait for a whole copy's credit: it ends with the payload, the semaphore back at zero. -/
theorem wait_own (n : Fin 150) (b : ℕ) (hb : levelOf n ≤ b) (hr : above b es = true) (W : Waits sig Unit)
    {s₁ s₂ : Shape} {e₁ e₂ : EltTy} {src : Memref sig .tc .vmem s₁ e₁} {dst : Memref sig .tc .vmem s₂ e₂}
    (hsrc : src.view.WordExact) (hdst : dst.view.WordExact) (hd : dst.view.dmaCredit = ownAmount n)
    (Q : Option (F .f32) → sProp 𝕄) :
    iprop(ctx m K ∗ owes (c : Thread nD τ) (owed c es) W ∗ res m c (.armed n)
        ∗ ((∃ W', owes (c : Thread nD τ) (owed c es) W') -∗ res m c (.done n) -∗ ownPay m c n -∗ Q a))
      ⊢ wp frame (wpE (defs₀ (F := F)) 𝒱₀ (c : Thread nD τ) none) Set.univ
          (.op (.waitDma2 (ownSem n) src dst hsrc hdst) fun _ => .ret a) Q := by
  simp only [res]
  iintro ⟨#Hctx, HO, ⟨Hat, Hcr⟩, Hk⟩
  ihave #Hlev := (ctx_lev m K) $$ Hctx
  ihave H := (ctx_own m K c n) $$ Hctx
  icases H with ⟨#HI, #HR⟩
  iapply (Rounds.wp_wait_rest_token 𝒱₀ ER (sched m) (c : Thread nD τ) none (κ := K (c, some n))
      (wpE_waitDma2_eq 𝒱₀ (c : Thread nD τ) none Set.univ) (Set.mem_univ _) () (O := owed c es) (W := W) (R := 0) (m := 0) (T := ∅)
      (by rw [Nat.zero_add, expect_own]; exact hd)) $$ [Hcr HO Hat]
  · isplitr; · iexact HI
    isplitl [Hcr]; · rw [hd]; iexact Hcr
    isplitl [HO]; · iexact HO
    isplitr
    · iapply (mayWait_above c (.dma (ownSem n)) es b (by rw [lv_own]; exact hb) hr)
      iexact Hlev
    iexact Hat
  iintro ⟨HO, Hat, -, Hpay⟩
  ihave Hp := (Entails.of_eq (rest_own m c n)) $$ Hpay
  imod (Rounds.cell_close ER (sched m) (Set.mem_univ (K (c, some n))) (fun h => h) (R := 0 + 1) (duties_later m (ownCell c n))) $$ [Hat] with Hz
  · isplitr; · iexact HI
    iexact Hat
  rw [wp_ret]; imodintro
  iapply Hk $$ [HO] Hz Hp
  iexists _; iexact HO

theorem levelOf_recvNo (h : Fin 60) : levelOf (recvNo h) = 2 + hopStep h := by unfold levelOf; rw [roleOf_recvNo]
theorem levelOf_sendNo (h : Fin 60) : levelOf (sendNo h) = 0 := by unfold levelOf; rw [roleOf_sendNo]
theorem levelOf_msgRecvNo (d : Fin 15) : levelOf (msgRecvNo d) = 20 := by unfold levelOf; rw [roleOf_msgRecvNo]
theorem levelOf_msgSendNo (d : Fin 15) : levelOf (msgSendNo d) = 0 := by unfold levelOf; rw [roleOf_msgSendNo]
theorem ownAmount_recvNo (h : Fin 60) : ownAmount (recvNo h) = blockCredit := by unfold ownAmount; rw [roleOf_recvNo]
theorem ownAmount_sendNo (h : Fin 60) : ownAmount (sendNo h) = blockCredit := by unfold ownAmount; rw [roleOf_sendNo]
theorem ownAmount_msgRecvNo (d : Fin 15) : ownAmount (msgRecvNo d) = msgCredit := by unfold ownAmount; rw [roleOf_msgRecvNo]
theorem ownAmount_msgSendNo (d : Fin 15) : ownAmount (msgSendNo d) = msgCredit := by unfold ownAmount; rw [roleOf_msgSendNo]
theorem ownPay_recvNo (h : Fin 60) : ownPay m c (recvNo h) = iprop(landedPts m c h ∗ carried (c + dstSlot h) h) := by
  unfold ownPay; rw [roleOf_recvNo]
theorem ownPay_sendNo (h : Fin 60) : ownPay m c (sendNo h) = srcPts m c h := by unfold ownPay; rw [roleOf_sendNo]
theorem ownPay_msgRecvNo (d : Fin 15) : ownPay m c (msgRecvNo d) = gPts m c (msgSlot d) := by unfold ownPay; rw [roleOf_msgRecvNo]
theorem ownPay_msgSendNo (d : Fin 15) : ownPay m c (msgSendNo d) = aPts m c (msgShare d.val) := by
  unfold ownPay; rw [roleOf_msgSendNo]

theorem sound_sent (h : Fin 60) (hr : ready (.sent h) es = true) : Sound m K c (.sent h) es a fo := by
  intro W
  unfold exec stepPre
  simp only [Prog.lift, Prog.bind_op, Prog.bind_ret, Prog.pure_eq_ret]
  rw [show takes (.sent h) = [.armed (sendNo h)] from rfl, stars_cons, stars_nil, show owed c (.sent h :: es) = owed c es from rfl]
  iintro ⟨#Hctx, HO, ⟨Harm, -⟩, Hout⟩
  iapply (wait_own m K c es a (sendNo h) 0 (levelOf_sendNo h).le hr W _ _ ((blockCredit_eq _ _).trans (ownAmount_sendNo h).symm))
  isplitr; · iexact Hctx
  isplitl [HO]; · iexact HO
  isplitl [Harm]; · iexact Harm
  iintro HO Hz Hp
  ihave Hp := (Entails.of_eq (ownPay_sendNo m c h)) $$ Hp
  unfold stepPost
  isplitr; · (ipureintro; rfl)
  isplitl [HO]; · iexact HO
  isplitl [Hz Hp]
  · rw [show leaves (.sent h) = [.done (sendNo h), .src h] from rfl, stars_cons, stars_cons, stars_nil,
      res_eqSrc m c]
    isplitl [Hz]; · iexact Hz
    isplitl [Hp]; · iexact Hp
    iempintro
  iexact Hout

theorem sound_msgSent (d : Fin 15) (hr : ready (.msgSent d) es = true) : Sound m K c (.msgSent d) es a fo := by
  intro W
  unfold exec stepPre
  simp only [Prog.lift, Prog.bind_op, Prog.bind_ret, Prog.pure_eq_ret]
  rw [show takes (.msgSent d) = [.armed (msgSendNo d)] from rfl, stars_cons, stars_nil, show owed c (.msgSent d :: es) = owed c es from rfl]
  iintro ⟨#Hctx, HO, ⟨Harm, -⟩, Hout⟩
  iapply (wait_own m K c es a (msgSendNo d) 0 (levelOf_msgSendNo d).le hr W _ _ (aCredit_eq.trans (ownAmount_msgSendNo d).symm))
  isplitr; · iexact Hctx
  isplitl [HO]; · iexact HO
  isplitl [Harm]; · iexact Harm
  iintro HO Hz Hp
  ihave Hp := (Entails.of_eq (ownPay_msgSendNo m c d)) $$ Hp
  unfold stepPost
  isplitr; · (ipureintro; rfl)
  isplitl [HO]; · iexact HO
  isplitl [Hz Hp]
  · rw [show leaves (.msgSent d) = [.done (msgSendNo d), .aPiece d] from rfl, stars_cons, stars_cons, stars_nil,
      res_eqAPiece m c]
    isplitl [Hz]; · iexact Hz
    isplitl [Hp]; · iexact Hp
    iempintro
  iexact Hout

theorem sound_msgGot (d : Fin 15) (hr : ready (.msgGot d) es = true) : Sound m K c (.msgGot d) es a fo := by
  intro W
  unfold exec stepPre
  simp only [Prog.lift, Prog.bind_op, Prog.bind_ret, Prog.pure_eq_ret]
  rw [show takes (.msgGot d) = [.armed (msgRecvNo d)] from rfl, stars_cons, stars_nil, show owed c (.msgGot d :: es) = owed c es from rfl]
  iintro ⟨#Hctx, HO, ⟨Harm, -⟩, Hout⟩
  iapply (wait_own m K c es a (msgRecvNo d) 20 (levelOf_msgRecvNo d).le hr W _ _ ((msgCredit_eq _).trans (ownAmount_msgRecvNo d).symm))
  isplitr; · iexact Hctx
  isplitl [HO]; · iexact HO
  isplitl [Harm]; · iexact Harm
  iintro HO Hz Hp
  ihave Hp := (Entails.of_eq (ownPay_msgRecvNo m c d)) $$ Hp
  unfold stepPost
  isplitr; · (ipureintro; rfl)
  isplitl [HO]; · iexact HO
  isplitl [Hz Hp]
  · rw [show leaves (.msgGot d) = [.done (msgRecvNo d), .gGot d] from rfl, stars_cons, stars_cons, stars_nil,
      res_eqGGot m c]
    isplitl [Hz]; · iexact Hz
    isplitl [Hp]; · iexact Hp
    iempintro
  iexact Hout

/-! ## An arrival -/

theorem landed_passed : ∀ h : Fin 60, passedOn (hopStream h) (dstSlot h) = (nextHop h).isSome := by decide +kernel
theorem next_stream : ∀ h h' : Fin 60, nextHop h = some h' → hopStream h' = hopStream h := by decide +kernel
theorem next_slot : ∀ h h' : Fin 60, nextHop h = some h' → srcSlot h' = dstSlot h := by decide +kernel
theorem next_step : ∀ h h' : Fin 60, nextHop h = some h' → hopStep h' ≠ 0 := by decide +kernel
theorem carry_split : ∀ h : Fin 60, hopStream h = 0 →
    carrySlots h = msgSlot (msgOf h) :: (match nextHop h with | some h' => carrySlots h' | none => []) := by decide +kernel
theorem msg_origin : ∀ c : Dev nD, ∀ h : Fin 60, hopStream h = 0 → c + dstSlot h = msgDev (msgOf h) c := by decide +kernel

/-- What arrives with a hop goes to the next hop, but for the slot of this device's own message. -/
theorem carried_split (h : Fin 60) :
    (carried (F := F) (c + dstSlot h) h : sProp 𝕄)
      ⊢ iprop((match nextHop h with | some h' => carried (c + dstSlot h) h' | none => iprop(emp))
          ∗ stars (res m c) (if hopStream h = 0 then [.msgDst (msgOf h)] else [])) := by
  by_cases h0 : hopStream h = 0
  · rw [if_pos h0, stars_cons, stars_nil]
    unfold carried
    rw [if_pos h0, carry_split h h0, stars_cons]
    rw [show res m c (.msgDst (msgOf h)) = grawAt (msgDev (msgOf h) c) (msgSlot (msgOf h)) from rfl, ← msg_origin c h h0]
    cases hn : nextHop h with
    | none =>
      dsimp only; rw [stars_nil]
      iintro ⟨Hm, He⟩
      isplitr; · iempintro
      isplitl [Hm] <;> iassumption
    | some h' =>
      dsimp only; rw [if_pos ((next_stream h h' hn).trans h0)]
      iintro ⟨Hm, He⟩
      isplitl [He]; · iexact He
      isplitl [Hm]; · iexact Hm
      iempintro
  · rw [if_neg h0, stars_nil]
    unfold carried
    cases hn : nextHop h with
    | none => dsimp only; iintro -; isplitr <;> iempintro
    | some h' =>
      dsimp only; rw [if_neg fun hh => h0 ((next_stream h h' hn).symm.trans hh)]
      iintro -; isplitr <;> iempintro

theorem srcPts_eq (h : Fin 60) (q : Fin 4) (s : Fin 16) (p : PosShare TreeShare) (hq : hopStream h = q) (hs : srcSlot h = s)
    (hp : srcShare h = p) : srcPts m c h = owns (c : Thread nD τ) (piece q s) p (block m (c + s) q) := by
  subst hq hs hp; rfl

/-- A landed slot: what stays, and what the next hop reads. -/
theorem landed_split (h : Fin 60) :
    landedPts m c h ⊢ iprop(owns (c : Thread nD τ) (piece (hopStream h) (dstSlot h)) (keepShare (hopStream h) (dstSlot h)) (block m (c + dstSlot h) (hopStream h))
      ∗ (match nextHop h with | some h' => srcPts m c h' | none => iprop(emp))) := by
  unfold landedPts keepShare
  rw [landed_passed]
  cases hn : nextHop h with
  | none =>
    dsimp only [Option.isSome]
    iintro H
    isplitl [H]; · iexact H
    iempintro
  | some h' =>
    dsimp only [Option.isSome]
    rw [srcPts_eq m c h' _ _ fullShare.right (next_stream h h' hn) (next_slot h h' hn)
      (by unfold srcShare; rw [if_neg (next_step h h' hn)])]
    exact owns_share c _ _ _

theorem sound_got (h : Fin 60) (hr : ready (.got h) es = true) : Sound m K c (.got h) es a fo := by
  intro W
  unfold exec stepPre
  simp only [Prog.lift, Prog.bind_op, Prog.bind_ret, Prog.pure_eq_ret]
  rw [show takes (.got h) = [.armed (recvNo h)] from rfl, stars_cons, stars_nil, show owed c (.got h :: es) = owed c es from rfl]
  iintro ⟨#Hctx, HO, ⟨Harm, -⟩, Hout⟩
  iapply (wait_own m K c es a (recvNo h) (2 + hopStep h) (levelOf_recvNo h).le hr W _ _ ((blockCredit_eq _ _).trans (ownAmount_recvNo h).symm))
  isplitr; · iexact Hctx
  isplitl [HO]; · iexact HO
  isplitl [Harm]; · iexact Harm
  iintro HO Hz Hp
  ihave Hp := (Entails.of_eq (ownPay_recvNo m c h)) $$ Hp
  icases Hp with ⟨Hl, Hc⟩
  ihave Hl := (landed_split m c h) $$ Hl
  icases Hl with ⟨Hkeep, Hsrc⟩
  ihave Hc := (carried_split m c h) $$ Hc
  icases Hc with ⟨Hcar, Hmsg⟩
  unfold stepPost
  isplitr; · (ipureintro; rfl)
  isplitl [HO]; · iexact HO
  isplitr [Hout]
  · rw [show leaves (.got h) = [.done (recvNo h), .keep (hopStream h) (dstSlot h)] ++
      (match nextHop h with | some h' => [.src h', .carry h'] | none => []) ++
      (if hopStream h = 0 then [.msgDst (msgOf h)] else []) from rfl, stars_append, stars_append, stars_cons, stars_cons, stars_nil, res_eqKeep]
    isplitr [Hmsg]
    · isplitl [Hz Hkeep]
      · isplitl [Hz]; · iexact Hz
        isplitl [Hkeep]; · iexact Hkeep
        iempintro
      cases hn : nextHop h with
      | none => dsimp only; rw [stars_nil]; iempintro
      | some h' =>
        dsimp only; rw [stars_cons, stars_cons, stars_nil, res_eqSrc, res_eqCarry, next_slot h h' hn]
        isplitl [Hsrc]; · iexact Hsrc
        isplitl [Hcar]; · iexact Hcar
        iempintro
    iexact Hmsg
  iexact Hout

end Cert.AllGather

end
-- ==== Proof.Copies.lean ====
/- The steps that start a copy to another device. -/
module

public import proofs.«01_k».proof.Proof.Exchange

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 150) → ℕ) (c : Dev nD) (es : List Step) (a : Option (F .f32))
  (fo : (cc0_stg2_0 : Ref sig .tc).ty.Contents (Elt F))

/-- The elements of a slot, held at any contents of the buffer, are the slot held at what it reads. -/
theorem owns_of_slot (o : Dev nD) (q : Fin 4) (s : Fin 16) (p : PosShare TreeShare) (f : (ringBuf q).view.ty.Contents (Elt F))
    (X : S1x64x4096.Idx → Elt F .bf16) (h : (piece q s).view.read (Elt F) f = X) :
    ((slot q s).view.loc (o : Thread nD τ) ↦[(slot q s).view.set]{p} f : sProp 𝕄) ⊢ owns (o : Thread nD τ) (piece q s) p X := by
  unfold owns
  rw [slot_set]
  iintro H
  iexists f
  isplitr; · (ipureintro; exact h)
  iexact H

theorem owns_of_gslot (o : Dev nD) (s : Fin 16) (p : PosShare TreeShare) (f : gBuf.view.ty.Contents (Elt F))
    (X : S1x8x128.Idx → Elt F .f32) (h : (gpiece s).view.read (Elt F) f = X) :
    ((gslot s).view.loc (o : Thread nD τ) ↦[(gslot s).view.set]{p} f : sProp 𝕄) ⊢ owns (o : Thread nD τ) (gpiece s) p X := by
  unfold owns
  rw [gslot_set]
  iintro H
  iexists f
  isplitr; · (ipureintro; exact h)
  iexact H

theorem hop_pay (h : Fin 60) (fs : (ringBuf (hopStream h)).view.ty.Contents (Elt F)) (fd : (ringBuf (hopStream h)).view.ty.Contents (Elt F))
    (hf : (piece (hopStream h) (srcSlot h)).view.read (Elt F) fs = block m (c + srcSlot h) (hopStream h)) :
    iprop(((slot (hopStream h) (dstSlot h)).view.loc (hopDev h c : Thread nD τ) ↦[(slot (hopStream h) (dstSlot h)).view.set]{fullShare}
        ((slot (hopStream h) (dstSlot h)).view.write (Elt F) fd ((slot (hopStream h) (srcSlot h)).view.read (Elt F) fs) Finset.univ : (ringBuf (hopStream h)).view.ty.Contents (Elt F)))
      ∗ (carried (c + srcSlot h) h : sProp 𝕄))
      ⊢ (sched m).payload (ownCell (hopDev h c) (recvNo h)) 0 false := by
  rw [payload_own, ownPay_recvNo, hop_origin]
  refine BIClass.sep_mono ?_ (Entails.refl _)
  unfold landedPts
  rw [hop_origin]
  refine owns_of_slot _ _ _ _ _ _ ?_
  refine (piece_read_of_slot (hopStream h) (dstSlot h) _ fs (srcSlot h) fs ?_).trans hf
  exact View.read_write_univ ..

theorem sound_send (h : Fin 60) : Sound m K c (.send h) es a fo := by
  intro W
  unfold exec stepPre
  simp only [Prog.lift, Prog.bind_op, Prog.bind_ret, Prog.pure_eq_ret]
  rw [show takes (.send h) = [.src h, .carry h, .hopDst h, .hopTok h, .fresh (sendNo h)] from rfl,
    stars_cons, stars_cons, stars_cons, stars_cons, stars_cons, stars_nil]
  simp only [res, srcPts, rawAt, owns]
  iintro ⟨#Hctx, HO, ⟨⟨%fs, %hfs, Hsrc⟩, Hcar, ⟨%X, %fd, %hfd, Hdst⟩, ⟨Ht1, Ht2⟩, Hat, -⟩, Hout⟩
  ihave H := (ctx_own m K c (sendNo h)) $$ Hctx
  icases H with ⟨#HI1, #HR1⟩
  ihave H := (ctx_own m K (hopDev h c) (recvNo h)) $$ Hctx
  icases H with ⟨#HI2, #HR2⟩
  rw [← slot_set, ← slot_set]
  iapply (Rounds.wp_send_pointsTo_with 𝒱₀ ER (sched m) (c : Thread nD τ) none (c' := (hopDev h c : Thread nD τ))
    (κ₁ := K (c, some (sendNo h))) (κ₂ := K (hopDev h c, some (recvNo h)))
    (src := slot (hopStream h) (srcSlot h)) (dst := slot (hopStream h) (dstSlot h)) (sS := .dma (ownSem (sendNo h))) (sem := .dma (ownSem (recvNo h)))
    (r₁ := 0) (r₂ := 0) (d₁ := false) (d₂ := false) (q := srcShare h) (fs := fs) (fd := fd) (F := carried (c + srcSlot h) h)
    (by rw [duties_own]; exact Finset.mem_singleton_self _) (by rw [duties_own]; exact Finset.mem_singleton_self _)
    () () blockCredit (blockCredit_eq _ _) ((amount_own m c (sendNo h) false).trans (ownAmount_sendNo h))
    ((amount_own m (hopDev h c) (recvNo h) false).trans (ownAmount_recvNo h)) (owed c es) rfl (W := W)
    (by rw [payload_own, ownPay_sendNo]; exact owns_of_slot _ _ _ _ _ _ hfs)
    (hop_pay m c h fs fd hfs)) $$ [Hsrc Hcar Hdst HO Ht1 Ht2]
  · isplitr; · iexact HI1
    isplitr; · iexact HI2
    isplitl [Hsrc]; · iexact Hsrc
    isplitl [Hdst Hcar]
    · isplitl [Hdst]; · iexact Hdst
      iexact Hcar
    isplitl [HO]; · iexact HO
    isplitl [Ht1]; · iexact Ht1
    isplitr; · iexact HR1
    isplitl [Ht2]; · iexact Ht2
    iexact HR2
  iintro ⟨Hcr, HO⟩
  rw [wp_ret]; imodintro
  unfold stepPost
  isplitr; · (ipureintro; rfl)
  isplitl [HO]; · iexists W; iexact HO
  isplitl [Hcr Hat]
  · rw [show leaves (.send h) = [.armed (sendNo h)] from rfl, stars_cons, stars_nil,
      show res m c (.armed (sendNo h)) = iprop(atPos ER (ownCell c (sendNo h)) 0 ∅ 0 ∗ cred (tallyAt (ownCell c (sendNo h)) () (ownAmount (sendNo h)))) from rfl,
      ownAmount_sendNo]
    isplitl [Hcr Hat]
    · isplitl [Hat] <;> iassumption
    iempintro
  iexact Hout

/-! ## The maxima's messages -/

theorem msg_sender : ∀ c : Dev nD, ∀ d : Fin 15, msgDev d c + msgSlot d = c := by decide +kernel

theorem gVal_eq (x : F .f32) : shapeCast S1x8x128 (aVal x) shapeCasts_S8x128_S1x8x128 = gVal x := by
  rfl

theorem gpiece_read_of_gslot (s : Fin 16) (f : gBuf.view.ty.Contents (Elt F)) (Y : S8x128.Idx → Elt F .f32)
    (h : (gslot s).view.read (Elt F) f = Y) :
    (gpiece s).view.read (Elt F) f = shapeCast S1x8x128 Y shapeCasts_S8x128_S1x8x128 := by
  have h1 : shapeCast S8x128 ((gpiece s).view.read (Elt F) f) shapeCasts_S1x8x128_S8x128 = Y := h
  have h2 := congrArg (fun z => shapeCast S1x8x128 z shapeCasts_S8x128_S1x8x128) h1
  simpa only [shapeCast_shapeCast] using h2

theorem aPts_set (q : PosShare TreeShare) :
    aPts m c q = (aBuf.view.loc (c : Thread nD τ) ↦[aBuf.view.set]{q} aVal (peak m c) : sProp 𝕄) := by
  unfold aPts; simp only [Memref.view_whole, View.set_whole]

theorem msg_pay (d : Fin 15) (fd : gBuf.view.ty.Contents (Elt F)) :
    ((gslot (msgSlot d)).view.loc (msgDev d c : Thread nD τ) ↦[(gslot (msgSlot d)).view.set]{fullShare}
        ((gslot (msgSlot d)).view.write (Elt F) fd (aBuf.view.read (Elt F) (aVal (peak m c))) Finset.univ : gBuf.view.ty.Contents (Elt F)) : sProp 𝕄)
      ⊢ (sched m).payload (ownCell (msgDev d c) (msgRecvNo d)) 0 false := by
  rw [payload_own, ownPay_msgRecvNo]
  unfold gPts
  rw [msg_sender]
  refine owns_of_gslot _ _ _ _ _ ?_
  refine (gpiece_read_of_gslot _ _ _ (View.read_write_univ ..)).trans ?_
  exact gVal_eq _

theorem sound_msg (d : Fin 15) : Sound m K c (.msg d) es a fo := by
  intro W
  unfold exec stepPre
  simp only [Prog.lift, Prog.bind_op, Prog.bind_ret, Prog.pure_eq_ret]
  rw [show takes (.msg d) = [.aPiece d, .msgDst d, .msgTok d, .fresh (msgSendNo d)] from rfl,
    stars_cons, stars_cons, stars_cons, stars_cons, stars_nil]
  simp only [res, grawAt, owns]
  rw [aPts_set]
  iintro ⟨#Hctx, HO, ⟨Hsrc, ⟨%X, %fd, %hfd, Hdst⟩, ⟨Ht1, Ht2⟩, Hat, -⟩, Hout⟩
  ihave H := (ctx_own m K c (msgSendNo d)) $$ Hctx
  icases H with ⟨#HI1, #HR1⟩
  ihave H := (ctx_own m K (msgDev d c) (msgRecvNo d)) $$ Hctx
  icases H with ⟨#HI2, #HR2⟩
  rw [← gslot_set]
  iapply (Rounds.wp_send_pointsTo 𝒱₀ ER (sched m) (c : Thread nD τ) none (c' := (msgDev d c : Thread nD τ))
    (κ₁ := K (c, some (msgSendNo d))) (κ₂ := K (msgDev d c, some (msgRecvNo d)))
    (src := aBuf) (dst := gslot (msgSlot d)) (sS := .dma (ownSem (msgSendNo d))) (sem := .dma (ownSem (msgRecvNo d)))
    (r₁ := 0) (r₂ := 0) (d₁ := false) (d₂ := false) (q := msgShare d.val) (fs := aVal (peak m c)) (fd := fd)
    (by rw [duties_own]; exact Finset.mem_singleton_self _) (by rw [duties_own]; exact Finset.mem_singleton_self _)
    () () msgCredit (msgCredit_eq _) ((amount_own m c (msgSendNo d) false).trans (ownAmount_msgSendNo d))
    ((amount_own m (msgDev d c) (msgRecvNo d) false).trans (ownAmount_msgRecvNo d)) (owed c es) rfl (W := W)
    (by rw [payload_own, ownPay_msgSendNo, aPts_set])
    (msg_pay m c d fd)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hcr, HO⟩
  rw [wp_ret]; imodintro
  unfold stepPost
  isplitr; · (ipureintro; rfl)
  isplitl [HO]; · iexists W; iexact HO
  isplitl [Hcr Hat]
  · rw [show leaves (.msg d) = [.armed (msgSendNo d)] from rfl, stars_cons, stars_nil,
      show res m c (.armed (msgSendNo d)) = iprop(atPos ER (ownCell c (msgSendNo d)) 0 ∅ 0 ∗ cred (tallyAt (ownCell c (msgSendNo d)) () (ownAmount (msgSendNo d)))) from rfl,
      ownAmount_msgSendNo]
    isplitl [Hcr Hat]
    · isplitl [Hat] <;> iassumption
    iempintro
  iexact Hout

end Cert.AllGather

end
-- ==== Proof.Flow.lean ====
/- Every step of the exchange finds the resources it uses. -/
module

public import proofs.«01_k».proof.Proof.Protocol

@[expose] public section

namespace Cert.AllGather

theorem endsWell_true : endsWell = true := by decide +kernel

end Cert.AllGather

end
-- ==== Proof.Run.lean ====
/- The whole list of steps, run from its starting resources to its final ones, and the last operations. -/
module

public import proofs.«01_k».proof.Proof.Local
public import proofs.«01_k».proof.Proof.Copies
public import proofs.«01_k».proof.Proof.Flow

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 150) → ℕ) (c : Dev nD)

/-! ## The maximum along the list -/

theorem accum_cons (e : Step) (es : List Step) (a : Option (F .f32)) : accum m c (e :: es) a = accum m c es (accStep m c e a) := by
  cases e <;> rfl

theorem accum_stays (es : List Step) (h : es.all (fun e => !isGemm e) = true) (a : Option (F .f32)) : accum m c es a = a := by
  induction es generalizing a with
  | nil => rfl
  | cons e es ih =>
    rw [List.all_cons, Bool.and_eq_true] at h
    rw [accum_cons, ih h.2]
    cases e <;> first | rfl | exact absurd h.1 Bool.false_ne_true

/-- The output after a list of steps. -/
def outFold (c : Dev nD) : List Step → (cc0_stg2_0 : Ref sig .tc).ty.Contents (Elt F) → (cc0_stg2_0 : Ref sig .tc).ty.Contents (Elt F)
  | [], fo => fo
  | e :: es, fo => outFold c es (outStep m c e fo)

theorem exec_sound (e : Step) (es : List Step) (a : Option (F .f32)) (fo : (cc0_stg2_0 : Ref sig .tc).ty.Contents (Elt F))
    (hr : ready e es = true) (ha : accum m c (e :: es) a = accum m c steps none) : Sound m K c e es a fo := by
  have key : es.all (fun e => !isGemm e) = true → accStep m c e a = a → a.getD (Scalar.ofBits .f32 0#32) = peak m c := by
    intro h he
    rw [accum_cons, accum_stays m c es h, he] at ha
    rw [ha]; rfl
  cases e with
  | sigLeft => exact sound_sigLeft m K c es a fo
  | sigRight => exact sound_sigRight m K c es a fo
  | meet => exact sound_meet m K c es a fo hr
  | put q => exact sound_put m K c es a fo q
  | send h => exact sound_send m K c es a fo h
  | putW => exact sound_putW m K c es a fo
  | gemm q r => exact sound_gemm m K c es a fo q r
  | got h => exact sound_got m K c es a fo h hr
  | sent h => exact sound_sent m K c es a fo h hr
  | putA => exact sound_putA m K c es a fo (key hr rfl)
  | putG => exact sound_putG m K c es a fo (key hr rfl)
  | msg d => exact sound_msg m K c es a fo d
  | msgSent d => exact sound_msgSent m K c es a fo d hr
  | msgGot d => exact sound_msgGot m K c es a fo d hr

theorem steps_sound (Q : PUnit → sProp 𝕄) (es : List Step) : ∀ (S S' : List Res) (a : Option (F .f32))
    (fo : (cc0_stg2_0 : Ref sig .tc).ty.Contents (Elt F)) (W : Waits sig Unit),
    flow es S = some S' → accum m c es a = accum m c steps none →
    iprop(ctx m K ∗ owes (c : Thread nD τ) (owed c es) W ∗ stars (res m c) S ∗ oPts c fo
        ∗ (∀ W', owes (c : Thread nD τ) 0 W' -∗ stars (res m c) S' -∗ oPts c (outFold m c es fo)
            -∗ wp frame (wpE (defs₀ (F := F)) 𝒱₀ (c : Thread nD τ) none) Set.univ finish Q))
      ⊢ wp frame (wpE (defs₀ (F := F)) 𝒱₀ (c : Thread nD τ) none) Set.univ (runSteps c es a) Q := by
  induction es with
  | nil =>
    intro S S' a fo W hf ha
    obtain rfl := Option.some.inj hf
    rw [show runSteps c [] a = finish (F := F) from rfl, show owed c [] = 0 from rfl, show outFold m c [] fo = fo from rfl]
    iintro ⟨-, HO, HS, Ho, Hk⟩
    iapply Hk $$ HO HS Ho
  | cons e es ih =>
    intro S S' a fo W hf ha
    unfold flow at hf
    by_cases hr : ready e es = true
    swap
    · rw [if_neg hr] at hf; exact absurd hf (by simp)
    rw [if_pos hr] at hf
    obtain ⟨T, hT, hf⟩ := Option.bind_eq_some_iff.mp hf
    rw [show runSteps c (e :: es) a = (exec c e a >>= runSteps (F := F) c es) from rfl, wp_bind]
    iintro ⟨#Hctx, HO, HS, Ho, Hk⟩
    ihave H := (takeAll_sound m c (takes e) S T hT) $$ HS
    icases H with ⟨Htake, HT⟩
    have hs : stepPre m K c e es fo W
      ⊢ wp frame (wpE (defs₀ (F := F)) 𝒱₀ (c : Thread nD τ) none) Set.univ (exec c e a) (stepPost m c e es a fo) :=
      exec_sound m K c e es a fo hr ha W
    ihave Hw := hs $$ [HO Htake Ho]
    · unfold stepPre
      isplitr; · iexact Hctx
      isplitl [HO]; · iexact HO
      isplitl [Htake] <;> iassumption
    iapply (wp_wand frame (wpE (defs₀ (F := F)) 𝒱₀ (c : Thread nD τ) none) Set.univ) $$ Hw
    iintro %a' Hpost
    unfold stepPost
    icases Hpost with ⟨%haa, ⟨%W', HO⟩, Hgive, Ho⟩
    subst haa
    iapply (ih (leaves e ++ T) S' (accStep m c e a) (outStep m c e fo) W' hf ((accum_cons m c e es a).symm.trans ha))
    isplitr; · iexact Hctx
    isplitl [HO]; · iexact HO
    isplitl [Hgive HT]
    · rw [stars_append]; isplitl [Hgive] <;> iassumption
    isplitl [Ho]; · iexact Ho
    iexact Hk

end Cert.AllGather

end
-- ==== Proof.Finish.lean ====
/- From the resources a device starts with to those it ends with, the output written. -/
module

public import proofs.«01_k».proof.Proof.Run

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists and finite families -/

section Lists
variable {ι κ : Type} {M : Type} [URA M]

theorem stars_flatMap (Φ : κ → sProp M) (f : ι → List κ) (l : List ι) : stars Φ (l.flatMap f) = stars (fun i => stars Φ (f i)) l := by
  induction l with
  | nil => rfl
  | cons i is ih => rw [List.flatMap_cons, stars_append, stars_cons, ih]

theorem bigSep_stars_of [DecidableEq ι] (Φ : ι → sProp M) (l : List ι) (hl : l.Nodup) : bigSep l.toFinset Φ = stars Φ l := by
  induction l with
  | nil => rfl
  | cons i is ih =>
    rw [List.toFinset_cons, stars_cons, ← ih (List.nodup_cons.mp hl).2]
    exact BI.bigSep_insert fun h => (List.nodup_cons.mp hl).1 (List.mem_toFinset.mp h)

/-- A finite family, listed. -/
theorem bigSep_stars [Fintype ι] [DecidableEq ι] (Φ : ι → sProp M) (l : List ι) (hl : l.Nodup) (hall : ∀ i, i ∈ l) :
    bigSep Finset.univ Φ = stars Φ l := by
  rw [← bigSep_stars_of Φ l hl]
  exact congrArg (fun S => bigSep S Φ) (Finset.ext fun i => ⟨fun _ => List.mem_toFinset.mpr (hall i), fun _ => Finset.mem_univ i⟩)

theorem bigSep_finRange {n : ℕ} (Φ : Fin n → sProp M) : bigSep Finset.univ Φ = stars Φ (List.finRange n) :=
  bigSep_stars Φ _ (List.nodup_finRange n) List.mem_finRange

theorem stars_sep (Φ Ψ : ι → sProp M) (l : List ι) : stars (fun i => iprop(Φ i ∗ Ψ i)) l ⊢ iprop(stars Φ l ∗ stars Ψ l) := by
  induction l with
  | nil => exact BIClass.emp_sep.2
  | cons i is ih =>
    rw [stars_cons, stars_cons, stars_cons]
    iintro ⟨⟨Ha, Hb⟩, H⟩
    ihave H := ih $$ H
    icases H with ⟨Hs, Ht⟩
    isplitl [Ha Hs]
    · isplitl [Ha] <;> iassumption
    isplitl [Hb] <;> iassumption

end Lists

/-! ## Slots make up a buffer -/

theorem slots_disjoint (s t : Fin 16) (h : s ≠ t) : Disjoint (slotRect s).set (slotRect t).set :=
  Rect.unit_disjoint (s := S16x64x4096) 0 (by
    show s.val + 1 ≤ t.val ∨ t.val + 1 ≤ s.val
    have : s.val ≠ t.val := fun h' => h (Fin.ext h')
    omega)

theorem slots_cover : (Finset.univ : Finset (Fin 16)).biUnion (fun s => (slotRect s).set) = Finset.univ := by
  ext i
  simp only [Finset.mem_biUnion, Finset.mem_univ, true_and, iff_true]
  refine ⟨⟨(i 0).val, (i 0).isLt⟩, Rect.mem_set_unit.mpr fun a => ?_⟩
  have hi := (i a).isLt
  fin_cases a
  · exact ⟨le_rfl, Nat.lt_succ_self _⟩
  · exact ⟨Nat.zero_le _, lt_of_lt_of_eq hi (Nat.zero_add _).symm⟩
  · exact ⟨Nat.zero_le _, lt_of_lt_of_eq hi (Nat.zero_add _).symm⟩

theorem gslots_disjoint (s t : Fin 16) (h : s ≠ t) : Disjoint (gslotRect s).set (gslotRect t).set :=
  Rect.unit_disjoint (s := S16x8x128) 0 (by
    show s.val + 1 ≤ t.val ∨ t.val + 1 ≤ s.val
    have : s.val ≠ t.val := fun h' => h (Fin.ext h')
    omega)

theorem gslots_cover : (Finset.univ : Finset (Fin 16)).biUnion (fun s => (gslotRect s).set) = Finset.univ := by
  ext i
  simp only [Finset.mem_biUnion, Finset.mem_univ, true_and, iff_true]
  refine ⟨⟨(i 0).val, (i 0).isLt⟩, Rect.mem_set_unit.mpr fun a => ?_⟩
  have hi := (i a).isLt
  fin_cases a
  · exact ⟨le_rfl, Nat.lt_succ_self _⟩
  · exact ⟨Nat.zero_le _, lt_of_lt_of_eq hi (Nat.zero_add _).symm⟩
  · exact ⟨Nat.zero_le _, lt_of_lt_of_eq hi (Nat.zero_add _).symm⟩

section Pieces
variable {T : Type} [Fintype T] [DecidableEq T] {s : Shape} {e : EltTy} (c : Dev nD) (M : Memref sig .tc .vmem s e) (r : T → Rect s)
  (hr : ∀ t a, (r t).stride a = 1) (hd : ∀ t t', t ≠ t' → Disjoint (r t).set (r t').set)
  (hcov : (Finset.univ : Finset T).biUnion (fun t => (r t).set) = Finset.univ)

include hd hcov

/-- Pieces holding anything make up the whole, holding something. -/
theorem pieces_join : bigSep Finset.univ (fun t => (iprop(∃ X, owns (c : Thread nD τ) (M.slice (r t) (hr t)) fullShare X) : sProp 𝕄))
    ⊢ (iprop(∃ X, owns (c : Thread nD τ) M fullShare X) : sProp 𝕄) := by
  haveI : ∀ e, Nonempty (Elt F e) := fun e => inferInstance
  have h1 := bigSep_exists_pi (M := 𝕄) Finset.univ (fun (t : T) (X : (r t).shape.Idx → Elt F e) =>
    (owns (c : Thread nD τ) (M.slice (r t) (hr t)) fullShare X : sProp 𝕄))
  refine h1.trans ?_
  iintro ⟨%Z, H⟩
  iexists (Rect.glue r hcov Z)
  iapply (owns_of_rects (c : Thread nD τ) M fullShare r hr hd hcov (Rect.glue r hcov Z))
  rw [show (fun t => (owns (c : Thread nD τ) (M.slice (r t) (hr t)) fullShare (fun j => Rect.glue r hcov Z ((r t).emb j)) : sProp 𝕄))
    = fun t => owns (c : Thread nD τ) (M.slice (r t) (hr t)) fullShare (Z t) from
      funext fun t => congrArg _ (funext fun j => Rect.glue_emb r hcov hd Z t j)]
  iexact H

/-- And the whole falls into pieces. -/
theorem pieces_split (X : s.Idx → Elt F e) : (owns (c : Thread nD τ) M fullShare X : sProp 𝕄)
    ⊢ bigSep Finset.univ (fun t => (iprop(∃ X, owns (c : Thread nD τ) (M.slice (r t) (hr t)) fullShare X) : sProp 𝕄)) := by
  have h : ∀ t, (owns (c : Thread nD τ) (M.slice (r t) (hr t)) fullShare (fun j => X ((r t).emb j)) : sProp 𝕄)
      ⊢ (iprop(∃ X, owns (c : Thread nD τ) (M.slice (r t) (hr t)) fullShare X) : sProp 𝕄) := by
    intro t
    iintro H
    iexists _
    iexact H
  exact (owns_rects (c : Thread nD τ) M fullShare r hr hd hcov X).trans (bigSep_mono fun t _ => h t)

end Pieces

variable (m : (ℓ : Loc nD τ sig) → Buf (Elt F) ℓ)
variable (K : Dev nD × Option (Fin 150) → ℕ) (c : Dev nD)

/-! ## The gathered maxima -/

/-- The slots of the gathered maxima: the device's own, then each message's. -/
def gList : List (Fin 16) := 0 :: (List.finRange 15).map msgSlot
theorem gList_nodup : gList.Nodup := by decide
theorem gList_all : ∀ s, s ∈ gList := by decide

/-- The maxima gathered. -/
def gAll : (cc0_scratch5 : Ref sig .tc).ty.Contents (Elt F) :=
  fun (i : S16x8x128.Idx) => gVal (peak m (c + (⟨(i 0).val, (i 0).isLt⟩ : Fin 16))) (fun a => ⟨0, by revert a; decide⟩)

theorem gVal_const (x : F .f32) (i j : S1x8x128.Idx) : gVal x i = gVal x j := rfl

theorem gAll_emb (s : Fin 16) : (fun j => gAll m c ((gslotRect s).emb j)) = gVal (peak m (c + s)) := by
  funext j
  have h : (⟨((gslotRect s).emb j 0).val, ((gslotRect s).emb j 0).isLt⟩ : Fin 16) = s := by
    apply Fin.ext
    show s.val + 1 * (j 0).val = s.val
    have : (j 0).val < 1 := (j 0).isLt
    omega
  exact (congrArg (fun s => gVal (peak m (c + s)) _) h).trans (gVal_const _ _ _)

theorem gAll_join : stars (gPts m c) gList ⊢ ((c : Thread nD τ).loc cc0_scratch5) ↦{fullShare} gAll m c := by
  haveI : ∀ e, Nonempty (Elt F e) := fun e => inferInstance
  rw [← bigSep_stars _ _ gList_nodup gList_all, ← owns_whole]
  refine Entails.trans (Entails.of_eq ?_) (owns_of_rects (c : Thread nD τ) gBuf fullShare gslotRect (fun _ _ => rfl) gslots_disjoint gslots_cover (gAll m c))
  exact congrArg (bigSep Finset.univ) (funext fun s => by unfold gPts; rw [gAll_emb])

/-! ## The end of the run -/

/-- What is left in the output buffer. -/
def outAt (fo : (cc0_stg2_0 : Ref sig .tc).ty.Contents (Elt F)) : (cc0_stg2_0 : Ref sig .tc).ty.Contents (Elt F) :=
  let o := outFold m c steps fo
  k0_pay1 (k0_pay132 (gAll m c)) (k0_pay134 o) (k0_pay135 (k0_pay133 (gAll m c)))

/-- What a device ends with, the output apart. -/
def ending : sProp 𝕄 :=
  iprop(res m c .xIn ∗ res m c .wIn ∗ res m c .barDone ∗ res m c .wCp
    ∗ (((c : Thread nD τ).loc cc0_scratch5) ↦{fullShare} gAll m c)
    ∗ (res m c .aRest ∗ stars (res m c) ((List.finRange 15).map .aPiece))
    ∗ stars (fun q => stars (fun s => iprop(res m c (.keep q s) ∗ stars (fun h => res m c (.src h)) (readersOf q s))) (List.finRange 16)) (List.finRange 4)
    ∗ stars (fun n => res m c (.done n)) (List.finRange 150))

theorem endRes_ending : stars (res m c) endRes ⊢ ending m c := by
  unfold ending
  rw [endRes, stars_append, stars_append, stars_append, stars_append, stars_flatMap, stars_map _ _ (List.finRange 150)]
  simp only [stars_flatMap, stars_cons, stars_nil]
  have hg : iprop(res m c .gOwn ∗ stars (res m c) ((List.finRange 15).map .gGot))
      ⊢ (((c : Thread nD τ).loc cc0_scratch5) ↦{fullShare} gAll m c : sProp 𝕄) := by
    have h2 := gAll_join m c
    refine BIClass.entails_trans ?_ h2
    rw [gList, stars_cons, stars_map, stars_map]
    exact Entails.refl _
  iintro ⟨⟨⟨⟨⟨H1, H2, H3, H4, H5, H6, -⟩, Ha⟩, Hg⟩, Hk⟩, Hd⟩
  ihave Hgg := hg $$ [H6 Hg]
  · isplitl [H6] <;> iassumption
  isplitl [H1]; · iexact H1
  isplitl [H2]; · iexact H2
  isplitl [H3]; · iexact H3
  isplitl [H4]; · iexact H4
  isplitl [Hgg]; · iexact Hgg
  isplitl [H5 Ha]
  · isplitl [H5] <;> iassumption
  isplitl [Hk]
  · simp only [stars_map]; iexact Hk
  iexact Hd

theorem z3 : (![0, 0, 0] : Fin 3 → ℕ) = fun _ => 0 := by funext a; fin_cases a <;> rfl

theorem read_gathered (f : (cc0_scratch5 : Ref sig .tc).ty.Contents (Elt F)) : (gBuf : Memref sig .tc .vmem S16x8x128 .f32).view.readAt (Elt F)
    (Rect.unit (s := S16x8x128) ![0, 0, 0] S16x8x128.size inb_S16x8x128_S16x8x128_0_0_0).toLoadRect f = f :=
  Memref.readAt_unit_zero (Elt F) cc0_scratch5 z3 inb_S16x8x128_S16x8x128_0_0_0 _

theorem read_out (f : (cc0_stg2_0 : Ref sig .tc).ty.Contents (Elt F)) : (oBuf : Memref sig .tc .vmem S4096x512 .f32).view.readAt (Elt F)
    (Rect.unit (s := S4096x512) ![0, 0] S4096x512.size inb_S4096x512_S4096x512_0_0).toLoadRect f = f :=
  Memref.readAt_unit_zero (Elt F) cc0_stg2_0 z2 inb_S4096x512_S4096x512_0_0 _

theorem body_sound (Q : PUnit → sProp 𝕄) (fo : (cc0_stg2_0 : Ref sig .tc).ty.Contents (Elt F)) (W : Waits sig Unit) :
    iprop(ctx m K ∗ owes (c : Thread nD τ) (owed c steps) W ∗ stars (res m c) startRes ∗ oPts c fo
        ∗ (∀ W', owes (c : Thread nD τ) 0 W' -∗ ending m c -∗ oPts c (outAt m c fo) -∗ Q ⟨⟩))
      ⊢ wp frame (wpE (defs₀ (F := F)) 𝒱₀ (c : Thread nD τ) none) Set.univ (bodyAt0 (F := F) t0_0) Q := by
  obtain ⟨S, hS, T, hT⟩ : ∃ S, flow steps startRes = some S ∧ ∃ T, takeAll endRes S = some T := by
    have h := endsWell_true
    unfold endsWell at h
    split at h
    · next S hS => exact ⟨S, hS, Option.isSome_iff_exists.mp h⟩
    · exact absurd h Bool.false_ne_true
  rw [body_eq, wp_bind]
  simp only [Prog.lift, wp_deviceId]
  iintro ⟨#Hctx, HO, HS, Ho, Hk⟩
  rw [wp_ret]; imodintro
  iapply (steps_sound m K c Q steps startRes S none fo W hS rfl)
  isplitr; · iexact Hctx
  isplitl [HO]; · iexact HO
  isplitl [HS]; · iexact HS
  isplitl [Ho]; · iexact Ho
  iintro %W' HO HS Ho
  ihave HS := (takeAll_sound m c endRes S T hT) $$ HS
  icases HS with ⟨HS, -⟩
  ihave HS := (endRes_ending m c) $$ HS
  unfold ending oPts
  icases HS with ⟨H1, H2, H3, H4, Hg, H5, H6, H7⟩
  unfold finish
  simp only [Prog.lift, Prog.bind_op, Prog.bind_ret, Prog.pure_eq_ret]
  iapply (wp_load 𝒱₀ (c : Thread nD τ) none Set.univ (m := gBuf) (Finset.subset_univ _)) $$ Hg; iintro Hg
  rw [read_gathered]
  iapply (wp_load 𝒱₀ (c : Thread nD τ) none Set.univ (m := oBuf) (Finset.subset_univ _)) $$ Ho; iintro Ho
  rw [read_out]
  iapply (wp_load 𝒱₀ (c : Thread nD τ) none Set.univ (m := oBuf) (Finset.subset_univ _)) $$ Ho; iintro Ho
  iapply (wp_store 𝒱₀ (c : Thread nD τ) none Set.univ (m := oBuf) (r := Rect.unit (s := S4096x512) ![0, 0] S4096x512.size inb_S4096x512_S4096x512_0_0) (Mk := Finset.univ) (Finset.subset_univ _)) $$ Ho; iintro Ho
  ihave Ho := (Entails.of_eq (congrArg (fun z => (((c : Thread nD τ).loc cc0_stg2_0) ↦{fullShare} z : sProp 𝕄))
    (Memref.write_access_unit_zero_univ (Elt F) cc0_stg2_0 z2 inb_S4096x512_S4096x512_0_0 (outFold m c steps fo) (outAt m c fo)))) $$ [Ho]
  · iexact Ho
  rw [wp_ret]; imodintro
  iapply Hk $$ HO [H1 H2 H3 H4 Hg H5 H6 H7] Ho
  isplitl [H1]; · iexact H1
  isplitl [H2]; · iexact H2
  isplitl [H3]; · iexact H3
  isplitl [H4]; · iexact H4
  isplitl [Hg]; · iexact Hg
  isplitl [H5]; · iexact H5
  isplitl [H6]; · iexact H6
  iexact H7

end Cert.AllGather

end
-- ==== Proof.Credits.lean ====
/- What the devices owe together: each cell's payments come from exactly the devices the exchange names. -/
module

public import proofs.«01_k».proof.Proof.Finish

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Neighbours are permutations -/

theorem back_inj : ∀ a b : Fin 16, a - 1 = b - 1 → a = b := by decide
theorem shift_inj : ∀ k a b : Fin 16, a + k = b + k → a = b := by decide +kernel
theorem leftDev_inj : Function.Injective leftDev := fun a b h => by
  rw [leftDev_eq, leftDev_eq] at h; exact back_inj a b h
theorem rightDev_inj : Function.Injective rightDev := fun a b h => by
  rw [rightDev_eq, rightDev_eq] at h; exact shift_inj _ a b h
theorem hopDev_inj (h : Fin 60) : Function.Injective (hopDev h) := by
  intro a b hab
  unfold hopDev at hab
  split at hab
  · exact rightDev_inj hab
  · exact leftDev_inj hab
theorem msgDev_inj (d : Fin 15) : Function.Injective (msgDev d) := fun a b h => by
  rw [msgDev_eq, msgDev_eq] at h; exact shift_inj _ a b h

/-- Summed over the devices, one of them pays. -/
theorem sum_payer (f : Dev nD → Dev nD) (hf : Function.Injective f) (c : Dev nD) (k : ℕ) :
    (∑ d : Dev nD, if f d = c then k else 0) = k := by
  have h := Equiv.sum_comp (Equiv.ofBijective f (Finite.injective_iff_bijective.mp hf)) (fun x => if x = c then k else 0)
  refine h.trans ?_
  rw [Finset.sum_ite_eq' Finset.univ c, if_pos (Finset.mem_univ _)]

/-! ## What is owed to one cell -/

theorem barCell_iff {a b : Dev nD} : barCell a = barCell b ↔ a = b :=
  ⟨fun h => congrArg (fun g : GSem nD τ sig => g.1.1) h, fun h => h ▸ rfl⟩
theorem ownSem_inj : Function.Injective ownSem := fun a b h => by
  have := congrArg semNo h
  rw [semNo_ownSem, semNo_ownSem] at this
  exact Option.some.inj this
theorem ownCell_iff {a b : Dev nD} {n k : Fin 150} : ownCell a n = ownCell b k ↔ a = b ∧ n = k := by
  refine ⟨fun h => ⟨congrArg (fun g : GSem nD τ sig => g.1.1) h, ownSem_inj ?_⟩, fun h => by rw [h.1, h.2]⟩
  have := congrArg Prod.snd h
  exact SemLoc.dma.inj this
theorem bar_ne_own {a b : Dev nD} {n : Fin 150} : barCell a ≠ ownCell b n := fun h => by
  have := congrArg Prod.snd h
  cases this

theorem recvNo_inj {h k : Fin 60} (e : recvNo h = recvNo k) : h = k := by
  have := congrArg roleOf e
  rw [roleOf_recvNo, roleOf_recvNo] at this
  exact Role.recvHop.inj this
theorem msgRecvNo_inj {h k : Fin 15} (e : msgRecvNo h = msgRecvNo k) : h = k := by
  have := congrArg roleOf e
  rw [roleOf_msgRecvNo, roleOf_msgRecvNo] at this
  exact Role.recvMsg.inj this
theorem recvNo_ne (h : Fin 60) (d : Fin 15) : recvNo h ≠ msgRecvNo d := fun e => by
  have := congrArg roleOf e
  rw [roleOf_recvNo, roleOf_msgRecvNo] at this
  cases this

theorem tally_bar (a c : Dev nD) (k : ℕ) : (tallyAt (barCell a) () k : CellTallies nD τ sig Unit) (barCell c) () = if a = c then k else 0 := by
  rw [tallyAt_apply]
  by_cases h : a = c
  · rw [if_pos h, if_pos ⟨barCell_iff.mpr h.symm, rfl⟩]
  · rw [if_neg h, if_neg fun h' => h (barCell_iff.mp h'.1).symm]
theorem tally_own (a c : Dev nD) (n : Fin 150) (k : ℕ) :
    (tallyAt (ownCell a n) () k : CellTallies nD τ sig Unit) (ownCell c n) () = if a = c then k else 0 := by
  rw [tallyAt_apply]
  by_cases h : a = c
  · rw [if_pos h, if_pos ⟨ownCell_iff.mpr ⟨h.symm, rfl⟩, rfl⟩]
  · rw [if_neg h, if_neg fun h' => h (ownCell_iff.mp h'.1).1.symm]

theorem owed_pay (d : Dev nD) (e : Step) (es : List Step) (g g' : GSem nD τ sig) (k : ℕ) (h : dueOf d e = some (g', k)) :
    owed d (e :: es) g () = owed d es g () + (tallyAt g' () k : CellTallies nD τ sig Unit) g () := by
  rw [owed, h]; rfl
theorem owed_free (d : Dev nD) (e : Step) (es : List Step) (h : dueOf d e = none) : owed d (e :: es) = owed d es := by
  rw [owed, h]

/-- Only the steps that pay a cell count. -/
theorem owed_filter (d : Dev nD) (g : GSem nD τ sig) (p : Step → Bool)
    (hp : ∀ e k, dueOf d e = some (g, k) → p e = true) : ∀ es, owed d es g () = owed d (es.filter p) g () := by
  intro es
  induction es with
  | nil => rfl
  | cons e es ih =>
    cases hd : dueOf d e with
    | none =>
      rw [owed_free d e es hd, ih]
      cases he : p e with
      | true => rw [List.filter_cons_of_pos he, owed_free d e _ hd]
      | false => rw [List.filter_cons_of_neg (by rw [he]; exact Bool.false_ne_true)]
    | some gk =>
      rw [owed_pay d e es g gk.1 gk.2 hd, ih]
      cases he : p e with
      | true => rw [List.filter_cons_of_pos he, owed_pay d e _ g gk.1 gk.2 hd]
      | false =>
        rw [List.filter_cons_of_neg (by rw [he]; exact Bool.false_ne_true), tallyAt_apply, if_neg, Nat.add_zero]
        rintro ⟨rfl, -⟩
        exact Bool.false_ne_true (he.symm.trans (hp e gk.2 hd))

def isSig : Step → Bool
  | .sigLeft => true
  | .sigRight => true
  | _ => false

theorem steps_sig : steps.filter isSig = [.sigLeft, .sigRight] := by decide +kernel
theorem steps_send : ∀ h : Fin 60, steps.filter (fun e => e == .send h) = [.send h] := by decide +kernel
theorem steps_msg : ∀ d : Fin 15, steps.filter (fun e => e == .msg d) = [.msg d] := by decide +kernel

/-- A step that pays is a signal, a hop or a message. -/
theorem due_cases (d : Dev nD) (e : Step) (g : GSem nD τ sig) (k : ℕ) (he : dueOf d e = some (g, k)) :
    (isSig e = true ∧ ∃ a, g = barCell a) ∨ (∃ h a, e = .send h ∧ g = ownCell a (recvNo h)) ∨ (∃ i a, e = .msg i ∧ g = ownCell a (msgRecvNo i)) := by
  have h1 := congrArg (Option.map Prod.fst) he
  cases e with
  | sigLeft => exact Or.inl ⟨rfl, _, (Option.some.inj h1).symm⟩
  | sigRight => exact Or.inl ⟨rfl, _, (Option.some.inj h1).symm⟩
  | send h => exact Or.inr (Or.inl ⟨h, _, rfl, (Option.some.inj h1).symm⟩)
  | msg i => exact Or.inr (Or.inr ⟨i, _, rfl, (Option.some.inj h1).symm⟩)
  | _ => cases h1

theorem owed_bar (d c : Dev nD) : owed d steps (barCell c) () = (if leftDev d = c then 1 else 0) + (if rightDev d = c then 1 else 0) := by
  rw [owed_filter d _ isSig, steps_sig]
  · rw [owed_pay d .sigLeft _ _ _ _ rfl, owed_pay d .sigRight _ _ _ _ rfl, tally_bar, tally_bar, Nat.add_comm]
    exact congrArg (_ + ·) (Nat.zero_add _)
  · intro e k he
    rcases due_cases d e _ k he with ⟨h, -⟩ | ⟨h, a, -, hg⟩ | ⟨i, a, -, hg⟩
    · exact h
    · exact absurd hg bar_ne_own
    · exact absurd hg bar_ne_own

theorem owed_recv (d c : Dev nD) (h : Fin 60) : owed d steps (ownCell c (recvNo h)) () = if hopDev h d = c then blockCredit else 0 := by
  rw [owed_filter d _ (fun e => e == .send h), steps_send]
  · rw [owed_pay d (.send h) _ _ _ _ rfl, tally_own]
    exact Nat.zero_add _
  · intro e k he
    rcases due_cases d e _ k he with ⟨-, a, hg⟩ | ⟨h', a, rfl, hg⟩ | ⟨i, a, -, hg⟩
    · exact absurd hg.symm bar_ne_own
    · rw [recvNo_inj (ownCell_iff.mp hg).2]; exact beq_self_eq_true _
    · exact absurd (ownCell_iff.mp hg).2 (recvNo_ne _ _)

theorem owed_msg (d c : Dev nD) (i : Fin 15) : owed d steps (ownCell c (msgRecvNo i)) () = if msgDev i d = c then msgCredit else 0 := by
  rw [owed_filter d _ (fun e => e == .msg i), steps_msg]
  · rw [owed_pay d (.msg i) _ _ _ _ rfl, tally_own]
    exact Nat.zero_add _
  · intro e k he
    rcases due_cases d e _ k he with ⟨-, a, hg⟩ | ⟨h', a, -, hg⟩ | ⟨i', a, rfl, hg⟩
    · exact absurd hg.symm bar_ne_own
    · exact absurd (ownCell_iff.mp hg).2.symm (recvNo_ne _ _)
    · rw [msgRecvNo_inj (ownCell_iff.mp hg).2]; exact beq_self_eq_true _

/-! ## The credit at launch -/

/-- What all devices owe at launch. -/
abbrev O₀ (c : Dev nD) : CellTallies nD τ sig Unit := owed c steps

theorem launch_at (g : GSem nD τ sig) (k : ℕ) (h : (∑ d : Dev nD, O₀ d g ()) = k) :
    tallyOn g (launchCredit (Pipeline.owing O₀) 0 g) = (tallyAt g () k : CellTallies nD τ sig Unit) := by
  unfold tallyAt
  refine congrArg _ (Finsupp.ext fun u => ?_)
  cases u
  rw [Pipeline.launchCredit_owing, Finsupp.single_eq_same, h]

theorem launch_bar (c : Dev nD) :
    tallyOn (barCell c) (launchCredit (Pipeline.owing O₀) 0 (barCell c)) = (tallyAt (barCell c) () 2 : CellTallies nD τ sig Unit) := by
  refine launch_at _ _ ?_
  rw [Finset.sum_congr rfl fun d _ => owed_bar d c, Finset.sum_add_distrib, sum_payer _ leftDev_inj, sum_payer _ rightDev_inj]

theorem launch_recv (c : Dev nD) (h : Fin 60) : tallyOn (ownCell c (recvNo h)) (launchCredit (Pipeline.owing O₀) 0 (ownCell c (recvNo h)))
    = (tallyAt (ownCell c (recvNo h)) () (ownAmount (recvNo h)) : CellTallies nD τ sig Unit) := by
  refine launch_at _ _ ?_
  rw [Finset.sum_congr rfl fun d _ => owed_recv d c h, sum_payer _ (hopDev_inj h), ownAmount, roleOf_recvNo]

theorem launch_msg (c : Dev nD) (d : Fin 15) : tallyOn (ownCell c (msgRecvNo d)) (launchCredit (Pipeline.owing O₀) 0 (ownCell c (msgRecvNo d)))
    = (tallyAt (ownCell c (msgRecvNo d)) () (ownAmount (msgRecvNo d)) : CellTallies nD τ sig Unit) := by
  refine launch_at _ _ ?_
  rw [Finset.sum_congr rfl fun k _ => owed_msg k c d, sum_payer _ (msgDev_inj d), ownAmount, roleOf_msgRecvNo]

/-- The semaphores that get credit at launch. -/
def creditSems : List (SemLoc sig) :=
  .reg barSem :: ((List.finRange 60).map (fun h => .dma (ownSem (recvNo h))) ++ (List.finRange 15).map (fun d => .dma (ownSem (msgRecvNo d))))

theorem creditSems_nodup : creditSems.Nodup := by
  unfold creditSems
  refine List.nodup_cons.mpr ⟨?_, List.Nodup.append ?_ ?_ ?_⟩
  · intro h
    rcases List.mem_append.mp h with h | h <;> obtain ⟨x, -, hx⟩ := List.mem_map.mp h <;> cases hx
  · exact (List.nodup_finRange 60).map fun a b h => recvNo_inj (ownSem_inj (SemLoc.dma.inj h))
  · exact (List.nodup_finRange 15).map fun a b h => msgRecvNo_inj (ownSem_inj (SemLoc.dma.inj h))
  · intro x hx hy
    obtain ⟨a, -, rfl⟩ := List.mem_map.mp hx
    obtain ⟨b, -, hb⟩ := List.mem_map.mp hy
    exact recvNo_ne a b (ownSem_inj (SemLoc.dma.inj hb)).symm

theorem creds (c : Dev nD) : (Pipeline.launchCred O₀ c : sProp 𝕄)
    ⊢ iprop(cred (tallyAt (barCell c) () 2) ∗ stars (fun h => cred (tallyAt (ownCell c (recvNo h)) () (ownAmount (recvNo h)))) (List.finRange 60)
      ∗ stars (fun d => cred (tallyAt (ownCell c (msgRecvNo d)) () (ownAmount (msgRecvNo d)))) (List.finRange 15)) := by
  unfold Pipeline.launchCred
  refine BIClass.entails_trans (bigSep_subset (Finset.subset_univ creditSems.toFinset)) ?_
  rw [bigSep_stars_of _ _ creditSems_nodup, creditSems, stars_cons, stars_append, stars_map, stars_map, launch_bar,
    stars_congr _ _ fun h _ => congrArg cred (launch_recv c h), stars_congr _ _ fun d _ => congrArg cred (launch_msg c d)]

end Cert.AllGather

end
-- ==== Proof.Ghost.lean ====
/- The launch: the records of the cells, the permissions dealt to the devices that use them, what a device starts from. -/
module

public import proofs.«01_k».proof.Proof.Credits

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists -/

section Lists
variable {ι : Type} {M : Type} [URA M]

theorem stars_pair (Φ Ψ : ι → sProp M) (l : List ι) : iprop(stars Φ l ∗ stars Ψ l) ⊢ stars (fun i => iprop(Φ i ∗ Ψ i)) l := by
  induction l with
  | nil =>
    iintro ⟨H, -⟩; iexact H
  | cons i is ih =>
    rw [stars_cons, stars_cons, stars_cons]
    iintro ⟨⟨Ha, Hs⟩, Hb, Ht⟩
    isplitl [Ha Hb]
    · isplitl [Ha] <;> iassumption
    iapply ih
    isplitl [Hs] <;> iassumption

theorem bigSep_option {n : ℕ} (Φ : Option (Fin n) → sProp M) :
    bigSep Finset.univ Φ = iprop(Φ none ∗ bigSep Finset.univ fun k => Φ (some k)) := by
  rw [bigSep_stars Φ (none :: (List.finRange n).map some), stars_cons, stars_map, ← bigSep_finRange]
  · refine List.nodup_cons.mpr ⟨fun h => ?_, (List.nodup_finRange n).map (Option.some_injective _)⟩
    obtain ⟨x, -, hx⟩ := List.mem_map.mp h
    cases hx
  · intro i
    cases i with
    | none => exact List.mem_cons_self
    | some k => exact List.mem_cons_of_mem _ (List.mem_map.mpr ⟨k, List.mem_finRange k, rfl⟩)

theorem bigSep_duty {n : ℕ} (Φ : Bool ⊕ Fin n → sProp M) :
    bigSep Finset.univ Φ = iprop((Φ (.inl false) ∗ Φ (.inl true)) ∗ bigSep Finset.univ fun k => Φ (.inr k)) := by
  rw [bigSep_stars Φ ([false, true].map .inl ++ (List.finRange n).map .inr), stars_append, stars_map, stars_map, ← bigSep_finRange,
    stars_cons, stars_cons, stars_nil]
  · have h1 : iprop(Φ (.inl true) ∗ emp) ⊢ Φ (.inl true) := by
      iintro ⟨H, -⟩; iexact H
    have h2 : Φ (.inl true) ⊢ iprop(Φ (.inl true) ∗ emp) := by
      iintro H; isplitl [H]; · iexact H
      iempintro
    rw [show iprop(Φ (.inl true) ∗ emp) = Φ (.inl true) from BI.equiv_iff.mp ⟨h1, h2⟩]
  · refine List.Nodup.append ((show [false, true].Nodup by decide).map Sum.inl_injective) ((List.nodup_finRange n).map Sum.inr_injective) fun x hx hy => ?_
    obtain ⟨a, -, rfl⟩ := List.mem_map.mp hx
    obtain ⟨b, -, hb⟩ := List.mem_map.mp hy
    cases hb
  · intro i
    cases i with
    | inl b => exact List.mem_append_left _ (List.mem_map.mpr ⟨b, by cases b <;> decide, rfl⟩)
    | inr k => exact List.mem_append_right _ (List.mem_map.mpr ⟨k, List.mem_finRange k, rfl⟩)

end Lists

/-- The kernel's own semaphores by what they are for. -/
def ownList : List (Fin 150) :=
  (List.finRange 60).map sendNo ++ (List.finRange 60).map recvNo ++ (List.finRange 15).map msgSendNo ++ (List.finRange 15).map msgRecvNo

theorem ownList_nodup : ownList.Nodup := by decide +kernel
theorem ownList_all : ∀ n, n ∈ ownList := by decide +kernel

theorem own_listed {M : Type} [URA M] (Φ : Fin 150 → sProp M) : bigSep Finset.univ Φ
    = iprop(((stars (fun h => Φ (sendNo h)) (List.finRange 60) ∗ stars (fun h => Φ (recvNo h)) (List.finRange 60))
      ∗ stars (fun d => Φ (msgSendNo d)) (List.finRange 15)) ∗ stars (fun d => Φ (msgRecvNo d)) (List.finRange 15)) := by
  rw [bigSep_stars Φ ownList ownList_nodup ownList_all, ownList, stars_append, stars_append, stars_append, stars_map, stars_map, stars_map,
    stars_map]

/-! ## Cells and tokens at launch -/

def osem : Fin 150 → SemLoc sig := fun n => .dma (ownSem n)

theorem cellAt_inj : Function.Injective cellAt := by
  rintro ⟨a, x⟩ ⟨b, y⟩ h
  cases x with
  | none =>
    cases y with
    | none =>
      have e : a = b := barCell_iff.mp h
      rw [e]
    | some k => exact absurd h bar_ne_own
  | some n =>
    cases y with
    | none => exact absurd h.symm bar_ne_own
    | some k =>
      have e : a = b ∧ n = k := ownCell_iff.mp h
      rw [e.1, e.2]

def ringCells : Finset (GSem nD τ sig) := Finset.univ.map ⟨cellAt, cellAt_inj⟩

/-- A duty of a device's cells: the barrier's two, each own cell's one. -/
abbrev Duty : Type := Bool ⊕ Fin 150

abbrev tokAt (p : Dev nD × Duty) : GSem nD τ sig × ℕ × Bool :=
  match p.2 with
  | .inl b => (barCell p.1, 0, b)
  | .inr n => (ownCell p.1 n, 0, false)

theorem tokAt_inj : Function.Injective tokAt := by
  rintro ⟨a, x⟩ ⟨b, y⟩ h
  have h1 := congrArg Prod.fst h
  have h2 := congrArg (fun z => z.2.2) h
  cases x with
  | inl i =>
    cases y with
    | inl j =>
      have e : a = b := barCell_iff.mp h1
      rw [e, show i = j from h2]
    | inr k => exact absurd h1 bar_ne_own
  | inr n =>
    cases y with
    | inl j => exact absurd h1.symm bar_ne_own
    | inr k =>
      have e : a = b ∧ n = k := ownCell_iff.mp h1
      rw [e.1, e.2]

def ringToks : Finset (GSem nD τ sig × ℕ × Bool) := Finset.univ.map ⟨tokAt, tokAt_inj⟩

def u₀ : UU :=
  (initOf (Pipeline.cells cfgs cellOf_inj) (Pipeline.launchToks cfgs cellOf_inj), initOf ringCells ringToks)

abbrev tok (p : Dev nD × Duty) : sProp 𝕄 := dutyTok ER (tokAt p).1 (tokAt p).2.1 (tokAt p).2.2

/-- What a device is dealt at launch: its cells' states, positions and reached marks, its cells' tokens. -/
def G (c : Dev nD) : sProp 𝕄 :=
  iprop((bigSep Finset.univ fun k => roundState ER (sched m) (cellAt (c, k)) 0)
    ∗ ((bigSep Finset.univ fun k => atPos ER (cellAt (c, k)) 0 ∅ 0) ∗ bigSep Finset.univ fun k => reached ER (cellAt (c, k)) 0)
    ∗ bigSep Finset.univ fun x => tok (c, x))

theorem fund_cells : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun x => tok (c, x) := by
    unfold ringToks; rw [bigSep_map, bigSep_univ_prod]; rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The tokens go to the devices that pay -/

/-- The device at whose cell `c` pays a duty. -/
def payDev : Duty → Dev nD → Dev nD
  | .inl b => sigDev (!b)
  | .inr n => match roleOf n with
    | .recvHop h => hopDev h
    | .recvMsg d => msgDev d
    | _ => id

theorem payDev_inj (x : Duty) : Function.Injective (payDev x) := by
  cases x with
  | inl b =>
    intro a c h
    cases b
    · exact rightDev_inj h
    · exact leftDev_inj h
  | inr n =>
    unfold payDev
    dsimp only
    split
    · exact hopDev_inj _
    · exact msgDev_inj _
    · exact Function.injective_id

def payEquiv (x : Duty) : Dev nD ≃ Dev nD := Equiv.ofBijective (payDev x) (Finite.injective_iff_bijective.mp (payDev_inj x))

theorem toks_around : (bigSep Finset.univ fun c : Dev nD => bigSep Finset.univ fun x => (tok (c, x) : sProp 𝕄))
    = bigSep Finset.univ fun c : Dev nD => bigSep Finset.univ fun x => tok (payDev x c, x) := by
  rw [BI.bigSep_univ_comm (fun (c : Dev nD) (x : Duty) => (tok (c, x) : sProp 𝕄)),
    BI.bigSep_univ_comm (fun (c : Dev nD) (x : Duty) => (tok (payDev x c, x) : sProp 𝕄))]
  exact bigSep_congr fun x _ => bigSep_univ_equiv (payEquiv x) (fun c => (tok (c, x) : sProp 𝕄))

/-- A device's share of the cells: its positions, its tokens to pay with. -/
def linear (c : Dev nD) : sProp 𝕄 :=
  iprop((bigSep Finset.univ fun k => atPos ER (cellAt (c, k)) 0 ∅ 0) ∗ bigSep Finset.univ fun x => tok (payDev x c, x))

theorem tok_send (c : Dev nD) (h : Fin 60) : (tok (payDev (.inr (sendNo h)) c, .inr (sendNo h)) : sProp 𝕄) = dutyTok ER (ownCell c (sendNo h)) 0 false := by
  unfold payDev; dsimp only; rw [roleOf_sendNo]; rfl
theorem tok_recv (c : Dev nD) (h : Fin 60) : (tok (payDev (.inr (recvNo h)) c, .inr (recvNo h)) : sProp 𝕄) = dutyTok ER (ownCell (hopDev h c) (recvNo h)) 0 false := by
  unfold payDev; dsimp only; rw [roleOf_recvNo]
theorem tok_msgSend (c : Dev nD) (d : Fin 15) : (tok (payDev (.inr (msgSendNo d)) c, .inr (msgSendNo d)) : sProp 𝕄) = dutyTok ER (ownCell c (msgSendNo d)) 0 false := by
  unfold payDev; dsimp only; rw [roleOf_msgSendNo]; rfl
theorem tok_msgRecv (c : Dev nD) (d : Fin 15) : (tok (payDev (.inr (msgRecvNo d)) c, .inr (msgRecvNo d)) : sProp 𝕄) = dutyTok ER (ownCell (msgDev d c) (msgRecvNo d)) 0 false := by
  unfold payDev; dsimp only; rw [roleOf_msgRecvNo]

theorem linear_listed (c : Dev nD) : linear (F := F) c ⊢ iprop((atPos ER (barCell c) 0 ∅ 0 ∗ res m c (.sigTok false) ∗ res m c (.sigTok true))
    ∗ (stars (fun h => res m c (.hopTok h)) (List.finRange 60) ∗ stars (fun d => res m c (.msgTok d)) (List.finRange 15))
    ∗ ((stars (fun h => res m c (.fresh (sendNo h))) (List.finRange 60) ∗ stars (fun h => res m c (.fresh (recvNo h))) (List.finRange 60))
      ∗ stars (fun d => res m c (.fresh (msgSendNo d))) (List.finRange 15)) ∗ stars (fun d => res m c (.fresh (msgRecvNo d))) (List.finRange 15)) := by
  unfold linear
  rw [bigSep_option, bigSep_duty, own_listed (fun k => (atPos ER (cellAt (c, some k)) 0 ∅ 0 : sProp 𝕄)),
    own_listed (fun n => (tok (payDev (.inr n) c, .inr n) : sProp 𝕄)),
    stars_congr _ _ fun h _ => tok_send c h, stars_congr _ _ fun h _ => tok_recv c h,
    stars_congr _ _ fun h _ => tok_msgSend c h, stars_congr _ _ fun h _ => tok_msgRecv c h]
  have h1 := stars_pair (fun h => (dutyTok ER (ownCell c (sendNo h)) 0 false : sProp 𝕄)) (fun h => dutyTok ER (ownCell (hopDev h c) (recvNo h)) 0 false) (List.finRange 60)
  have h2 := stars_pair (fun d => (dutyTok ER (ownCell c (msgSendNo d)) 0 false : sProp 𝕄)) (fun d => dutyTok ER (ownCell (msgDev d c) (msgRecvNo d)) 0 false) (List.finRange 15)
  iintro ⟨⟨Hb, Hpos⟩, ⟨Ht, Hf⟩, ⟨⟨Hs, Hr⟩, Hm⟩, Hn⟩
  isplitl [Hb Hf Ht]
  · isplitl [Hb]; · iexact Hb
    simp only [res]
    isplitl [Hf]; · iexact Hf
    iexact Ht
  isplitl [Hs Hr Hm Hn]
  · simp only [res]
    isplitl [Hs Hr]
    · iapply h1
      isplitl [Hs] <;> iassumption
    iapply h2
    isplitl [Hm] <;> iassumption
  simp only [res]
  iexact Hpos

/-! ## The cells' invariants -/

theorem unscopedSems0_eq (c : Dev nD) : (unscopedSems0 c : sProp 𝕄) = semVal (barCell c) 0 := by
  unfold unscopedSems0; rw [bigSep_eq_bigSepL_of_eq [SemLoc.reg barSem] (by decide) (by decide)]; rfl

abbrev ownSems (c : Dev nD) : sProp 𝕄 := Pipeline.ownSems0 (Ix := Unit) (Name := ℕ) (U := UU) (Lvl := ℕ) (Val := Elt F) (τ := τ) osem c

theorem ownSems_eq (c : Dev nD) : (ownSems (F := F) c : sProp 𝕄) = bigSep Finset.univ fun k => semVal (ownCell c k) 0 := rfl

theorem sems_cells (c : Dev nD) : iprop(ownSems (F := F) c ∗ unscopedSems0 c) ⊢ (bigSep Finset.univ fun k => semVal (cellAt (c, k)) 0 : sProp 𝕄) := by
  rw [unscopedSems0_eq, bigSep_option, ownSems_eq]
  iintro ⟨Ho, Hb⟩
  isplitl [Hb]; · iexact Hb
  iexact Ho

theorem core_alloc (c : Dev nD) : iprop(ownSems c ∗ unscopedSems0 c ∗ G m c)
    ⊢ |={Set.univ}=> iprop((bigSep Finset.univ fun k => iprop(∃ κ : ℕ, cellInv ER (sched m) κ (cellAt (c, k))))
      ∗ ((bigSep Finset.univ fun k => atPos ER (cellAt (c, k)) 0 ∅ 0) ∗ bigSep Finset.univ fun k => reached ER (cellAt (c, k)) 0)
      ∗ bigSep Finset.univ fun x => tok (c, x)) := by
  have hinv : iprop((bigSep Finset.univ fun k => semVal (cellAt (c, k)) 0) ∗ bigSep Finset.univ fun k => roundState ER (sched m) (cellAt (c, k)) 0)
      ⊢ (|={Set.univ}=> bigSep Finset.univ fun k => iprop(∃ κ : ℕ, cellInv ER (sched m) κ (cellAt (c, k))) : sProp 𝕄) := by
    rw [← bigSep_sep']
    exact (bigSep_mono fun k _ => (Rounds.body_intro ER (sched m) (cellAt (c, k))).trans inv_alloc).trans (bigSep_fupd _ _)
  unfold G
  iintro ⟨Hos, Hus, Hst, Hat, Htok⟩
  ihave Hv := (sems_cells (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- The records every device keeps. -/
def records (K : Dev nD × Option (Fin 150) → ℕ) : sProp 𝕄 :=
  iprop((bigSep Finset.univ fun p => cellInv ER (sched m) (K p) (cellAt p))
    ∗ bigSep Finset.univ fun p : Dev nD × Option (Fin 150) => reached ER (cellAt p) 0)

instance records_persistent (K) : BI.Persistent (records m K) := by unfold records; infer_instance

/-- What the launch makes of what it dealt. -/
def G' (c : Dev nD) : sProp 𝕄 := iprop(∃ K, records m K ∗ linear c)

theorem regroup : (bigSep Finset.univ fun c : Dev nD => iprop((bigSep Finset.univ fun k => iprop(∃ κ : ℕ, cellInv ER (sched m) κ (cellAt (c, k))))
      ∗ ((bigSep Finset.univ fun k => atPos ER (cellAt (c, k)) 0 ∅ 0) ∗ bigSep Finset.univ fun k => reached ER (cellAt (c, k)) 0)
      ∗ bigSep Finset.univ fun x => tok (c, x)) : sProp 𝕄) ⊢ bigSep Finset.univ (G' m) := by
  rw [bigSep_sep', bigSep_sep', bigSep_sep', toks_around,
    ← bigSep_univ_prod (fun p : Dev nD × Option (Fin 150) => (iprop(∃ κ : ℕ, cellInv ER (sched m) κ (cellAt p)) : sProp 𝕄)),
    ← bigSep_univ_prod (fun p : Dev nD × Option (Fin 150) => (reached ER (cellAt p) 0 : sProp 𝕄))]
  iintro ⟨HI, ⟨Hat, #HR⟩, Htok⟩
  ihave HK := (BI.bigSep_exists_pi Finset.univ (fun (p : Dev nD × Option (Fin 150)) (κ : ℕ) => (cellInv ER (sched m) κ (cellAt p) : sProp 𝕄))) $$ HI
  icases HK with ⟨%K, #HI⟩
  have hpers : iprop(records m K ∗ bigSep Finset.univ (fun c : Dev nD => linear (F := F) c)) ⊢ bigSep Finset.univ (G' m) := by
    have hone : ∀ c : Dev nD, iprop(records m K ∗ linear c) ⊢ G' m c := by
      intro c
      unfold G'
      iintro H
      iexists K; iexact H
    have hall : records m K ⊢ bigSep (Finset.univ : Finset (Dev nD)) fun _ => records m K := BI.bigSep_of_persistent Finset.univ (records m K)
    refine (sep_mono_left hall).trans ?_
    rw [← bigSep_sep']
    exact bigSep_mono fun c _ => hone c
  iapply hpers
  isplitr
  · unfold records; isplitl; · iexact HI
    iexact HR
  unfold linear
  rw [bigSep_sep']
  isplitl [Hat]; · iexact Hat
  iexact Htok

theorem glob : (bigSep Finset.univ fun c => iprop(ownSems (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device starts from -/

/-- The part of it that is no buffer. -/
def dealt (c : Dev nD) : sProp 𝕄 :=
  iprop((res m c (.sigTok false) ∗ res m c (.sigTok true) ∗ res m c .barC)
    ∗ (stars (fun h => res m c (.hopTok h)) (List.finRange 60) ∗ stars (fun d => res m c (.msgTok d)) (List.finRange 15))
    ∗ (stars (fun h => res m c (.fresh (sendNo h))) (List.finRange 60) ∗ stars (fun h => res m c (.armed (recvNo h))) (List.finRange 60))
    ∗ (stars (fun d => res m c (.fresh (msgSendNo d))) (List.finRange 15) ∗ stars (fun d => res m c (.armed (msgRecvNo d))) (List.finRange 15)))

def start (c : Dev nD) : sProp 𝕄 := iprop((∃ K, ctx m K) ∗ dealt m c)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have h1 := stars_pair (fun h => (atPos ER (ownCell c (recvNo h)) 0 ∅ 0 : sProp 𝕄)) (fun h => cred (tallyAt (ownCell c (recvNo h)) () (ownAmount (recvNo h)))) (List.finRange 60)
  have h2 := stars_pair (fun d => (atPos ER (ownCell c (msgRecvNo d)) 0 ∅ 0 : sProp 𝕄)) (fun d => cred (tallyAt (ownCell c (msgRecvNo d)) () (ownAmount (msgRecvNo d)))) (List.finRange 15)
  unfold G' start records
  iintro ⟨-, Hlev, Hcr, -, ⟨%K, ⟨HI, HR⟩, Hlin⟩⟩
  ihave Hc := (creds (F := F) c) $$ Hcr
  icases Hc with ⟨Hcb, Hch, Hcm⟩
  ihave Hl := (linear_listed m c) $$ Hlin
  icases Hl with ⟨⟨Hb, Hf, Ht⟩, Htok, ⟨⟨Hps, Hpr⟩, Hms⟩, Hmr⟩
  imodintro
  isplitl
  · isplitl [HI HR Hlev]
    · iexists K; unfold ctx
      isplitl [HI]; · iexact HI
      isplitl [HR] <;> iassumption
    unfold dealt
    isplitl [Hb Hf Ht Hcb]
    · isplitl [Hf]; · iexact Hf
      isplitl [Ht]; · iexact Ht
      simp only [res]
      isplitl [Hb] <;> iassumption
    isplitl [Htok]; · iexact Htok
    isplitl [Hps Hpr Hch]
    · isplitl [Hps]; · iexact Hps
      simp only [res]
      iapply h1
      isplitl [Hpr] <;> iassumption
    isplitl [Hms]; · iexact Hms
    simp only [res]
    iapply h2
    isplitl [Hmr] <;> iassumption
  iempintro

end Cert.AllGather

end
-- ==== Proof.Buffers.lean ====
/- The scratch buffers: cut into the slots the exchange starts with, and put together again at its end. -/
module

public import proofs.«01_k».proof.Proof.Finish
public import Idealize.ShloMosaic.Lib.StableHlo.CollectiveRules

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## In -/

/-- The hops of a stream. -/
def streamHops (q : Fin 4) : List (Fin 60) := (List.finRange 60).filter fun h => hopStream h == q

theorem streamHops_all : (List.finRange 4).flatMap streamHops = List.finRange 60 := by decide
theorem streamHops_stream (q : Fin 4) (h : Fin 60) (hh : h ∈ streamHops q) : hopStream h = q :=
  eq_of_beq (List.mem_filter.mp hh).2
/-- Slot `0` and the slots the hops write are all of a buffer's slots, each once. -/
theorem dst_nodup : ∀ q, (0 :: (streamHops q).map dstSlot).Nodup := by decide
theorem dst_all : ∀ q s, s ∈ 0 :: (streamHops q).map dstSlot := by decide

theorem ring_in (q : Fin 4) : (iprop(∃ X, owns (c : Thread nD τ) (ringBuf q) fullShare X) : sProp 𝕄)
    ⊢ iprop(res m c (.rawOwn q) ∗ stars (fun h => res m c (.rawHop h)) (streamHops q)) := by
  have h1 : ∀ X, (owns (c : Thread nD τ) (ringBuf q) fullShare X : sProp 𝕄)
      ⊢ iprop(res m c (.rawOwn q) ∗ stars (fun h => res m c (.rawHop h)) (streamHops q)) := by
    intro X
    refine BIClass.entails_trans (pieces_split c (ringBuf q) slotRect (fun _ _ => rfl) slots_disjoint slots_cover X) ?_
    rw [bigSep_stars _ _ (dst_nodup q) (dst_all q), stars_cons, stars_map]
    refine BIClass.sep_mono (Entails.refl _) (stars_mono _ _ fun h hh => ?_)
    rw [← streamHops_stream q h hh]
    exact Entails.refl _
  iintro ⟨%X, H⟩
  iapply (h1 X); iexact H

theorem rings_in : stars (fun q => (iprop(∃ X, owns (c : Thread nD τ) (ringBuf q) fullShare X) : sProp 𝕄)) (List.finRange 4)
    ⊢ iprop(stars (fun q => res m c (.rawOwn q)) (List.finRange 4) ∗ stars (fun h => res m c (.rawHop h)) (List.finRange 60)) := by
  rw [← streamHops_all, stars_flatMap]
  exact BIClass.entails_trans (stars_mono _ _ fun q _ => ring_in m c q) (stars_sep _ _ _)

/-- The slots of the gathered maxima in the order the first hops take them. -/
def gOrder : List (Fin 16) :=
  0 :: order.flatMap fun p => if hopStream (hop p.1 p.2 0) = 0 then carrySlots (hop p.1 p.2 0) else []
theorem gOrder_nodup : gOrder.Nodup := by decide
theorem gOrder_all : ∀ s, s ∈ gOrder := by decide

theorem order_src : ∀ p ∈ order, srcSlot (hop p.1 p.2 0) = 0 := by decide

theorem add_none : ∀ c : Dev nD, c + (0 : Fin 16) = c := by decide

theorem g_in : (iprop(∃ X, owns (c : Thread nD τ) gBuf fullShare X) : sProp 𝕄)
    ⊢ iprop(res m c .gRaw ∗ stars (res m c) (order.map fun p => .carry (hop p.1 p.2 0))) := by
  have h1 : ∀ X, (owns (c : Thread nD τ) gBuf fullShare X : sProp 𝕄)
      ⊢ iprop(res m c .gRaw ∗ stars (res m c) (order.map fun p => .carry (hop p.1 p.2 0))) := by
    intro X
    refine BIClass.entails_trans (pieces_split c gBuf gslotRect (fun _ _ => rfl) gslots_disjoint gslots_cover X) ?_
    rw [bigSep_stars _ _ gOrder_nodup gOrder_all, gOrder, stars_cons, stars_map, stars_flatMap]
    refine BIClass.sep_mono (Entails.refl _) (stars_mono _ _ fun p hp => ?_)
    simp only [res]
    rw [order_src p hp, add_none]
    unfold carried
    split <;> exact Entails.refl _
  iintro ⟨%X, H⟩
  iapply (h1 X); iexact H

theorem whole_some (b : Ref sig .tc) : (iprop(∃ f : Buf (Elt F) ((c : Thread nD τ).loc b), ((c : Thread nD τ).loc b) ↦{fullShare} f) : sProp 𝕄)
    = iprop(∃ X, owns (c : Thread nD τ) (Memref.whole b) fullShare X) :=
  by simp only [owns_whole]

/-- The scratch buffers, cut up. -/
theorem bufs_in : (Pipeline.scopedRest (Ix := Unit) (Name := ℕ) (U := UU) (Lvl := ℕ) (Val := Elt F) spec0 c : sProp 𝕄)
    ⊢ iprop((stars (fun q => res m c (.rawOwn q)) (List.finRange 4) ∗ stars (fun h => res m c (.rawHop h)) (List.finRange 60))
      ∗ res m c .wRaw ∗ (res m c .gRaw ∗ stars (res m c) (order.map fun p => .carry (hop p.1 p.2 0))) ∗ res m c .aRaw) := by
  rw [scopedRest0_eq]
  iintro ⟨H0, H1, H2, H3, Hw, Hg, Ha⟩
  isplitl [H0 H1 H2 H3]
  · iapply (rings_in m c)
    rw [show List.finRange 4 = [0, 1, 2, 3] from rfl, stars_cons, stars_cons, stars_cons, stars_cons, stars_nil]
    ihave H0 := (Entails.of_eq (whole_some c cc0_scratch0)) $$ H0
    ihave H1 := (Entails.of_eq (whole_some c cc0_scratch1)) $$ H1
    ihave H2 := (Entails.of_eq (whole_some c cc0_scratch2)) $$ H2
    ihave H3 := (Entails.of_eq (whole_some c cc0_scratch3)) $$ H3
    isplitl [H0]; · iexact H0
    isplitl [H1]; · iexact H1
    isplitl [H2]; · iexact H2
    isplitl [H3]; · iexact H3
    iempintro
  isplitl [Hw]; · simp only [res]; iexact Hw
  isplitl [Hg]
  · iapply (g_in m c)
    ihave Hg := (Entails.of_eq (whole_some c cc0_scratch5)) $$ Hg
    iexact Hg
  simp only [res]; iexact Ha

/-! ## Out -/

/-- Who reads a slot: nobody, one later hop, or the two first hops. -/
def readersOk (q : Fin 4) (s : Fin 16) : Bool :=
  match readersOf q s with
  | [] => !passedOn q s
  | [h] => passedOn q s && hopStream h == q && srcSlot h == s && !(hopStep h == 0)
  | [h, k] => passedOn q s && hopStream h == q && srcSlot h == s && hopStep h == 0 && goesRight h
      && hopStream k == q && srcSlot k == s && hopStep k == 0 && !goesRight k
  | _ => false

theorem readers_ok : ∀ q s, readersOk q s = true := by decide +kernel

theorem share_left_right (M : Memref sig .tc .vmem S1x64x4096 .bf16) (p : PosShare TreeShare) (X : S1x64x4096.Idx → Elt F .bf16) :
    iprop(owns (c : Thread nD τ) M p.left X ∗ owns (c : Thread nD τ) M p.right X) ⊢ (owns (c : Thread nD τ) M p X : sProp 𝕄) :=
  (Idealize.ShloMosaic.ownsSat_share (c : Thread nD τ) M (· = X) (PosShare.mem_left_op_right p)).2

/-- A slot and the shares lent of it are the slot. -/
theorem slot_out (q : Fin 4) (s : Fin 16) : iprop(res m c (.keep q s) ∗ stars (fun h => res m c (.src h)) (readersOf q s))
    ⊢ (iprop(∃ X, owns (c : Thread nD τ) (piece q s) fullShare X) : sProp 𝕄) := by
  have hok := readers_ok q s
  unfold readersOk at hok
  split at hok
  · next hr =>
    rw [hr, stars_nil]
    simp only [res, keepShare]
    rw [if_neg (by rw [Bool.not_eq_true'] at hok; rw [hok]; exact Bool.false_ne_true)]
    iintro ⟨H, -⟩
    iexists _; iexact H
  · next h hr =>
    simp only [Bool.and_eq_true, beq_iff_eq, Bool.not_eq_true', beq_eq_false_iff_ne] at hok
    obtain ⟨⟨⟨hp, rfl⟩, rfl⟩, h0⟩ := hok
    rw [hr, stars_cons, stars_nil]
    simp only [res, keepShare, srcPts, srcShare]
    rw [if_pos hp, if_neg h0]
    iintro ⟨H, Hs, -⟩
    iexists _
    iapply (share_left_right c (piece (hopStream h) (srcSlot h)) fullShare _)
    isplitl [H] <;> iassumption
  · next h k hr =>
    simp only [Bool.and_eq_true, beq_iff_eq, Bool.not_eq_true'] at hok
    obtain ⟨⟨⟨⟨⟨⟨⟨⟨hp, rfl⟩, rfl⟩, h0⟩, hg⟩, hq⟩, hs⟩, k0⟩, kg⟩ := hok
    rw [hr, stars_cons, stars_cons, stars_nil]
    simp only [res, keepShare, srcPts, srcShare]
    rw [if_pos hp, if_pos h0, if_pos hg, if_pos k0, if_neg (by rw [kg]; exact Bool.false_ne_true), hq, hs]
    iintro ⟨H, Hl, Hr, -⟩
    iexists _
    iapply (share_left_right c (piece (hopStream h) (srcSlot h)) fullShare _)
    isplitl [H]; · iexact H
    iapply (share_left_right c (piece (hopStream h) (srcSlot h)) fullShare.right _)
    isplitl [Hl] <;> iassumption
  · exact absurd hok Bool.false_ne_true

theorem ring_out (q : Fin 4) :
    stars (fun s => iprop(res m c (.keep q s) ∗ stars (fun h => res m c (.src h)) (readersOf q s))) (List.finRange 16)
      ⊢ (iprop(∃ X, owns (c : Thread nD τ) (ringBuf q) fullShare X) : sProp 𝕄) := by
  refine BIClass.entails_trans (stars_mono _ _ fun s _ => slot_out m c q s) ?_
  have h := pieces_join (F := F) c (ringBuf q) slotRect (fun _ _ => rfl) slots_disjoint slots_cover
  rw [bigSep_finRange] at h
  exact h

theorem aPts_whole (n : ℕ) : iprop(aPts m c (restShare n) ∗ stars (fun k => aPts m c (msgShare k)) (List.range n)) ⊢ aPts m c fullShare := by
  induction n with
  | zero =>
    iintro ⟨H, -⟩; iexact H
  | succ n ih =>
    rw [List.range_succ, stars_append, stars_cons, stars_nil]
    have hj : iprop(aPts m c (msgShare n) ∗ aPts m c (restShare (n + 1))) ⊢ aPts m c (restShare n) := by
      unfold aPts msgShare
      exact (pointsTo_share (PosShare.mem_left_op_right (restShare n))).2
    iintro ⟨Hr, Hs, Hm, -⟩
    iapply ih
    isplitl [Hr Hm]
    · iapply hj
      isplitl [Hm] <;> iassumption
    iexact Hs

theorem a_out : iprop(res m c .aRest ∗ stars (res m c) ((List.finRange 15).map .aPiece)) ⊢ aPts m c fullShare := by
  refine BIClass.entails_trans ?_ (aPts_whole m c 15)
  rw [show List.range 15 = (List.finRange 15).map Fin.val from by decide, stars_map, stars_map]
  exact Entails.refl _

/-- The scratch buffers, whole again. -/
theorem bufs_out : iprop(res m c .wCp ∗ (((c : Thread nD τ).loc cc0_scratch5) ↦{fullShare} gAll m c)
      ∗ (res m c .aRest ∗ stars (res m c) ((List.finRange 15).map .aPiece))
      ∗ stars (fun q => stars (fun s => iprop(res m c (.keep q s) ∗ stars (fun h => res m c (.src h)) (readersOf q s))) (List.finRange 16)) (List.finRange 4))
    ⊢ (Pipeline.scopedRest (Ix := Unit) (Name := ℕ) (U := UU) (Lvl := ℕ) (Val := Elt F) spec0 c : sProp 𝕄) := by
  rw [scopedRest0_eq, whole_some c cc0_scratch0, whole_some c cc0_scratch1, whole_some c cc0_scratch2, whole_some c cc0_scratch3,
    show List.finRange 4 = [0, 1, 2, 3] from rfl, stars_cons, stars_cons, stars_cons, stars_cons, stars_nil]
  iintro ⟨Hw, Hg, Ha, Hk⟩
  ihave Ha := (a_out m c) $$ Ha
  icases Hk with ⟨H0, H1, H2, H3, -⟩
  ihave H0 := (ring_out m c 0) $$ H0
  ihave H1 := (ring_out m c 1) $$ H1
  ihave H2 := (ring_out m c 2) $$ H2
  ihave H3 := (ring_out m c 3) $$ H3
  isplitl [H0]; · iexact H0
  isplitl [H1]; · iexact H1
  isplitl [H2]; · iexact H2
  isplitl [H3]; · iexact H3
  isplitl [Hw]; · simp only [res]; iexists _; iexact Hw
  isplitl [Hg]; · iexists _; iexact Hg
  unfold aPts; iexists _; iexact Ha

end Cert.AllGather

end
-- ==== Proof.Output.lean ====
/- The output before it is quantised: every block of it is some product. -/
module

public import proofs.«01_k».proof.Proof.Run

@[expose] public section

set_option maxRecDepth 100000

noncomputable section

namespace Cert.AllGather

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The device, the quarter and the row within it that a row of the output comes from. -/
def rowDev (i : S4096x512.Idx) : Fin 16 := ⟨(i 0).val / 256, by have : (i 0).val < 4096 := (i 0).isLt; omega⟩
def rowQuarter (i : S4096x512.Idx) : Fin 4 := ⟨(i 0).val % 256 / 64, by omega⟩
def rowIn (i : S4096x512.Idx) : S64x512.Idx :=
  fun a => match a with
    | ⟨0, _⟩ => ⟨(i 0).val % 64, Nat.mod_lt _ (by decide)⟩
    | ⟨1, _⟩ => ⟨(i 1).val, (i 1).isLt⟩

/-- The whole product on device `c`. -/
def yAll : (cc0_stg2_0 : Ref sig .tc).ty.Contents (Elt F) :=
  fun (i : S4096x512.Idx) => prodOf (block m (rowDev i) (rowQuarter i)) (weights m c) (rowIn i)

abbrev gemmRect (q : Fin 4) (r : Fin 16) : Rect S4096x512 :=
  Rect.unit (s := S4096x512) (k0_off1 c (BitVec.ofNat 32 r.val) (BitVec.ofNat 32 (64 * q.val))) S64x512.size (k0_off1_inb c r q)

theorem off1_row : ∀ (c : Dev nD) (q : Fin 4) (r : Fin 16),
    k0_off1 c (BitVec.ofNat 32 r.val) (BitVec.ofNat 32 (64 * q.val)) 0 = 256 * (c + r).val + 64 * q.val := by decide +kernel
theorem off1_col : ∀ (c : Dev nD) (q : Fin 4) (r : Fin 16),
    k0_off1 c (BitVec.ofNat 32 r.val) (BitVec.ofNat 32 (64 * q.val)) 1 = 0 := by decide +kernel

theorem gemm_dev (q : Fin 4) (r : Fin 16) (j : S64x512.Idx) :
    rowDev ((gemmRect c q r).emb j) = c + r ∧ rowQuarter ((gemmRect c q r).emb j) = q ∧ rowIn ((gemmRect c q r).emb j) = j := by
  have h0 : (((gemmRect c q r).emb j) 0).val = 256 * (c + r).val + 64 * q.val + 1 * (j 0).val := by
    rw [← off1_row c q r]; rfl
  have h1 : (((gemmRect c q r).emb j) 1).val = (j 1).val := by
    have h : (((gemmRect c q r).emb j) 1).val = k0_off1 c (BitVec.ofNat 32 r.val) (BitVec.ofNat 32 (64 * q.val)) 1 + 1 * (j 1).val := rfl
    rw [h, off1_col]; omega
  have hj : (j 0).val < 64 := (j 0).isLt
  have hq := q.isLt
  refine ⟨Fin.ext ?_, Fin.ext ?_, funext fun a => Fin.ext ?_⟩
  · show _ / 256 = (c + r).val; rw [h0]; generalize (c + r).val = k; omega
  · show _ % 256 / 64 = q.val; rw [h0]; generalize (c + r).val = k; omega
  · fin_cases a
    · show _ % 64 = (j 0).val; rw [h0]; generalize (c + r).val = k; omega
    · exact h1

theorem outStep_in (q : Fin 4) (r : Fin 16) (fo) (j : S64x512.Idx) :
    outStep m c (.gemm q r) fo ((gemmRect c q r).emb j) = yAll m c ((gemmRect c q r).emb j) := by
  have h := View.write_emb_of_mem (v := (oBuf.access (gemmRect c q r) : View sig .tc _ _ _)) (Val := Elt F) fo (prod m c q r)
    (M := Finset.univ) (x := j) (Finset.mem_univ _)
  obtain ⟨h0, h1, h2⟩ := gemm_dev c q r j
  refine h.trans ?_
  unfold yAll
  rw [h0, h1, h2]
  rfl

theorem outStep_agree (e : Step) (fo) (i : S4096x512.Idx) : outStep m c e fo i = fo i ∨ outStep m c e fo i = yAll m c i := by
  cases e with
  | gemm q r =>
    by_cases hi : ∃ j, (gemmRect c q r).emb j = i
    · obtain ⟨j, rfl⟩ := hi
      exact .inr (outStep_in m c q r fo j)
    · refine .inl (View.write_of_not_mem (v := (oBuf.access (gemmRect c q r) : View sig .tc _ _ _)) fo (prod m c q r) Finset.univ fun h => hi ?_)
      obtain ⟨j, -, hj⟩ := Finset.mem_map.mp h
      exact ⟨j, hj⟩
  | _ => exact .inl rfl

theorem outFold_agree (es : List Step) (fo) (i : S4096x512.Idx) (h : fo i = yAll m c i) : outFold m c es fo i = yAll m c i := by
  induction es generalizing fo with
  | nil => exact h
  | cons e es ih =>
    refine ih _ ?_
    rcases outStep_agree m c e fo i with h' | h'
    · rw [h', h]
    · exact h'

theorem outFold_mem (es : List Step) (fo) (q : Fin 4) (r : Fin 16) (hm : Step.gemm q r ∈ es) (j : S64x512.Idx) :
    outFold m c es fo ((gemmRect c q r).emb j) = yAll m c ((gemmRect c q r).emb j) := by
  induction es generalizing fo with
  | nil => exact absurd hm List.not_mem_nil
  | cons e es ih =>
    rcases List.mem_cons.mp hm with rfl | hm
    · exact outFold_agree m c es _ _ (outStep_in m c q r fo j)
    · exact ih _ hm

theorem gemm_in_steps : ∀ (q : Fin 4) (r : Fin 16), Step.gemm q r ∈ steps := by decide +kernel

theorem dev_sub : ∀ b c : Fin 16, c + (b - c) = b := by decide

theorem row_covered (i : S4096x512.Idx) : (gemmRect c (rowQuarter i) (rowDev i - c)).emb (rowIn i) = i := by
  funext a
  apply Fin.ext
  fin_cases a
  · show k0_off1 c (BitVec.ofNat 32 (rowDev i - c).val) (BitVec.ofNat 32 (64 * (rowQuarter i).val)) 0 + 1 * ((i 0).val % 64) = (i 0).val
    rw [off1_row, dev_sub]
    show 256 * ((i 0).val / 256) + 64 * ((i 0).val % 256 / 64) + 1 * ((i 0).val % 64) = (i 0).val
    omega
  · show k0_off1 c (BitVec.ofNat 32 (rowDev i - c).val) (BitVec.ofNat 32 (64 * (rowQuarter i).val)) 1 + 1 * (i 1).val = (i 1).val
    rw [off1_col]; omega

/-- After all the steps the output holds the whole product, whatever it held. -/
theorem outFold_steps (fo) : outFold m c steps fo = yAll m c := by
  funext i
  have h := outFold_mem m c steps fo (rowQuarter i) (rowDev i - c) (gemm_in_steps _ _) (rowIn i)
  rwa [row_covered c i] at h

end Cert.AllGather

end
-- ==== Proof.Launch.lean ====
/- The whole run: every device's body under the launch's rules, to the final memory. -/
module

public import proofs.«01_k».proof.Proof.Ghost
public import proofs.«01_k».proof.Proof.Buffers
public import proofs.«01_k».proof.Proof.Output
public import Idealize.ShloMosaic.Lib.Pipeline.CollectiveSegs

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- What the kernel leaves in device `c`'s output. -/
def outFinal (c : Dev nD) : (cc0_stg2_0 : Ref sig .tc).ty.Contents (Elt F) :=
  k0_pay1 (k0_pay132 (gAll m c)) (k0_pay134 (yAll m c)) (k0_pay135 (k0_pay133 (gAll m c)))

theorem outAt_eq (c : Dev nD) (fo : (cc0_stg2_0 : Ref sig .tc).ty.Contents (Elt F)) : outAt m c fo = outFinal m c := by
  unfold outAt outFinal; rw [outFold_steps]

/-! ## What the body starts from and ends with -/

/-- The scratch buffers as the exchange starts with them. -/
def bufs (c : Dev nD) : sProp 𝕄 :=
  iprop((stars (fun q => res m c (.rawOwn q)) (List.finRange 4) ∗ stars (fun h => res m c (.rawHop h)) (List.finRange 60))
      ∗ res m c .wRaw ∗ (res m c .gRaw ∗ stars (res m c) (order.map fun p => .carry (hop p.1 p.2 0))) ∗ res m c .aRaw)

theorem startRes_intro (c : Dev nD) : iprop((res m c .xIn ∗ res m c .wIn) ∗ dealt m c ∗ bufs m c) ⊢ stars (res m c) startRes := by
  rw [startRes, stars_append, stars_append, stars_append, stars_append, stars_append, stars_append, stars_append, stars_append, stars_append]
  simp only [stars_map, stars_cons, stars_nil]
  unfold dealt bufs
  simp only [stars_map]
  iintro ⟨⟨Hx, Hw⟩, ⟨⟨Hf, Ht, Hb⟩, ⟨Hh, Hm⟩, ⟨H1, H2⟩, H3, H4⟩, ⟨Hq, Hr⟩, Hwr, ⟨Hg, Hc⟩, Ha⟩
  isplitr [Hc]
  · isplitr [H4]
    · isplitr [H3]
      · isplitr [H2]
        · isplitr [H1]
          · isplitr [Hm]
            · isplitr [Hh]
              · isplitr [Hr]
                · isplitr [Hq]
                  · isplitl [Hx]; · iexact Hx
                    isplitl [Hw]; · iexact Hw
                    isplitl [Hf]; · iexact Hf
                    isplitl [Ht]; · iexact Ht
                    isplitl [Hb]; · iexact Hb
                    isplitl [Hwr]; · iexact Hwr
                    isplitl [Ha]; · iexact Ha
                    isplitl [Hg]; · iexact Hg
                    iempintro
                  iexact Hq
                iexact Hr
              iexact Hh
            iexact Hm
          iexact H1
        iexact H2
      iexact H3
    iexact H4
  iexact Hc

def Φ₀ (c : Dev nD) : sProp 𝕄 := iprop(start m c ∗ bufs m c)
/-- At the end: the scratch buffers' pieces, every semaphore at zero. -/
def Φ₁ (c : Dev nD) : sProp 𝕄 :=
  iprop((res m c .wCp ∗ (((c : Thread nD τ).loc cc0_scratch5) ↦{fullShare} gAll m c)
      ∗ (res m c .aRest ∗ stars (res m c) ((List.finRange 15).map .aPiece))
      ∗ stars (fun q => stars (fun s => iprop(res m c (.keep q s) ∗ stars (fun h => res m c (.src h)) (readersOf q s))) (List.finRange 16)) (List.finRange 4))
    ∗ res m c .barDone ∗ stars (fun n => res m c (.done n)) (List.finRange 150))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outFinal m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer's contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

def bodyPre (c : Dev nD) : sProp 𝕄 :=
  iprop(Φ₀ m c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))

def bodyPost (c : Dev nD) : sProp 𝕄 :=
  iprop(Φ₁ m c ∗ (dats m ρ 0 c).owesAt () t0_0.succ ∗ held c cc0_stg0_0 (xstg m c) ∗ held c cc0_stg1_0 (wstg m c)
    ∗ held c cc0_stg2_0 (outFinal m c))

theorem body_run (c : Dev nD) : bodyPre m ρ c ⊢ wp frame (wpE (defs₀ (F := F)) 𝒱₀ (c : Thread nD τ) none) Set.univ (bodyAt0 (F := F) t0_0) (fun _ => bodyPost m ρ c) := by
  unfold bodyPre Φ₀ start
  iintro ⟨⟨⟨⟨%K, Hctx⟩, Hd⟩, Hb⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = owed c steps from rfl]
  iapply (body_sound m K c (fun _ => bodyPost m ρ c) g2 W)
  isplitl [Hctx]; · iexact Hctx
  isplitl [HO]; · iexact HO
  isplitl [Hx Hw Hd Hb]
  · iapply (startRes_intro m c)
    isplitl [Hx Hw]
    · simp only [res]
      isplitl [Hx] <;> iassumption
    isplitl [Hd] <;> iassumption
  isplitl [Hout]; · unfold oPts; iexact Hout
  iintro %W' HO He Ho
  rw [outAt_eq]
  unfold ending oPts bodyPost Φ₁ Dat.owesAt Pipeline.owesWithin
  rw [show (dats m ρ 0 c).owed t0_0.succ = 0 from rfl]
  icases He with ⟨H1, H2, H3, H4, H5, H6, H7, H8⟩
  isplitl [H3 H4 H5 H6 H7 H8]
  · isplitl [H4 H5 H6 H7]
    · isplitl [H4]; · iexact H4
      isplitl [H5]; · iexact H5
      isplitl [H6] <;> iassumption
    isplitl [H3] <;> iassumption
  isplitl [HO]
  · iexists W'
    isplitr; · ipureintro; exact fun _ _ => Or.inl trivial
    iexact HO
  simp only [res]
  isplitl [H1]
  · iexists _; isplitr; · (ipureintro; rfl)
    iexact H1
  isplitl [H2]
  · iexists _; isplitr; · (ipureintro; rfl)
    iexact H2
  iexists _; isplitr; · (ipureintro; rfl)
  iexact Ho

theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_held]
  show bodyPre m ρ c ⊢ wp frame (wpE (defs₀ (F := F)) 𝒱₀ (c : Thread nD τ) none) Set.univ (bodyAt0 (F := F) t0_0) (fun _ => bodyPost m ρ c)
  exact body_run m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  have h : (Pipeline.scopedRest (Ix := Unit) (Name := ℕ) (U := UU) (Lvl := ℕ) (Val := Elt F) cfg0.spec c : sProp 𝕄) ⊢ bufs m c := bufs_in m c
  unfold Φ₀
  iintro ⟨Hs, -, Hr⟩
  isplitl [Hs]; · iexact Hs
  iapply h; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, unscopedSems0_eq]
  have h := bufs_out m c
  have hs : stars (fun n => res m c (.done n)) (List.finRange 150) ⊢ (Pipeline.ownSems0 osem c : sProp 𝕄) := by
    rw [← bigSep_finRange]; exact Entails.refl _
  unfold Φ₁
  iintro ⟨Hb, Hz, Hd⟩
  isplitl [Hz]; · simp only [res]; iexact Hz
  isplitl [Hd]
  · iapply hs; iexact Hd
  iapply h; iexact Hb

theorem steps_above : above 0 steps = true := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_above c _ steps 0 (by fin_cases w <;> fin_cases s <;> exact Nat.le_refl 0) steps_above
    · show _ ⊢ MayWait (c : Thread nD τ) _ () 0
      rw [MayWait_zero]; iintro -; iempintro

/-! ## The run -/

/-- What an array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every execution ends, each array at the named contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The shards are as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.AllGather

end
-- ==== Proof.Scalars.lean ====
module

public import proofs.«01_k».proof.Proof.Output
public import Idealize.ShloMosaic.Lib.MatmulPlain
public import Idealize.ShloMosaic.PureOps.Ideal.Laws
public import Idealize.ShloMosaic.Lib.Pipeline.Value
public import Mathlib.Data.EReal.Inv

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-! # Over the extended reals: maxima, products, and the two ways to scale -/

/-! ## A maximum, by what bounds it -/

theorem lowest : Ideal.ofBits .f32 0xFF800000#32 = ⊥ := by simp [Ideal.ofBits, Ideal.ieee]

/-- A number bounds a reduction to one element exactly when it bounds every element. -/
theorem top_le {s t : Shape} {axes : List (Fin s.rank)} (v : FVec Ideal s .f32) (h : s.Reduces axes t) (j : t.Idx) (hj : ∀ k : t.Idx, k = j) (b : EReal) :
    multiReduction (F := Ideal) .maximumf axes t v 0xFF800000#32 h (.inl rfl) rfl j ≤ b ↔ ∀ i, v i ≤ b := by
  refine (iff_of_eq (congrArg (· ≤ b) (multiReduction_maximumf_eq_fold v 0xFF800000#32 h (.inl rfl) rfl j))).trans ?_
  refine (Finset.fold_max_le (b := (Ideal.ofBits .f32 0xFF800000#32 : EReal)) (f := v) b).trans ?_
  rw [lowest]
  exact ⟨fun H i => H.2 i (Finset.mem_filter.mpr ⟨Finset.mem_univ _, hj _⟩), fun H => ⟨bot_le, fun i _ => H i⟩⟩

/-- A change of shape keeps what bounds an array. -/
theorem cast_le {s t : Shape} (v : s.Idx → EReal) (h : s.ShapeCasts t) (b : EReal) : (∀ j, shapeCast t v h j ≤ b) ↔ ∀ i, v i ≤ b := by
  refine ⟨fun H i => ?_, fun H j => H _⟩
  have e := H ((Shape.reshapeEquiv h).symm i)
  unfold shapeCast at e
  rwa [Equiv.apply_symm_apply] at e

theorem one_idx (k j : S1.Idx) : k = j := by
  funext a; apply Fin.ext
  match a with
  | ⟨0, _⟩ => have h1 : (k 0).val < 1 := (k 0).isLt; have h2 : (j 0).val < 1 := (j 0).isLt; show (k 0).val = (j 0).val; omega

/-- The magnitude over the extended reals. -/
def mag (y : EReal) : EReal := max y (-y)

theorem peakOf_le (v : FVec Ideal S64x512 .f32) (b : EReal) : peakOf (F := Ideal) v ≤ b ↔ ∀ j, mag (v j) ≤ b := by
  unfold peakOf extractAt
  refine (top_le _ _ _ (fun k => one_idx k _) b).trans ?_
  exact cast_le (fun j => mag (v j)) _ b

theorem gathered_le (v : FVec Ideal S16x8x128 .f32) (b : EReal) : k0_pay131 (F := Ideal) v ≤ b ↔ ∀ j, v j ≤ b := by
  unfold k0_pay131 extractAt
  refine (top_le _ _ _ (fun k => one_idx k _) b).trans ?_
  exact cast_le v _ b

/-! ## The product -/

theorem prodOf_at (v : Vec Ideal S1x64x4096 .bf16) (w : Vec Ideal S4096x512 .bf16) (r : Fin 64) (l : Fin 512) :
    prodOf (F := Ideal) v w (ix2 r l) = ∑ k : Fin 4096, v (ix3 (0 : Fin 1) r k) * w (ix2 k l) := by
  unfold prodOf k0_pay7
  refine (Ideal.matmul_plain_apply none _ w _ r l).trans ?_
  rw [show (constant (F := Ideal) S64x512 .f32 0x00000000#32 (ix2 r l) : EReal) = 0 from Ideal.ofBits_zero_f32, zero_add]
  refine Finset.sum_congr rfl fun k _ => congrArg (· * w (ix2 k l)) ?_
  refine (shapeCast_dropUnit_apply ![64, 4096] v _ (ix2 r k)).trans (congrArg v ?_)
  funext a
  match a with
  | ⟨0, _⟩ => rfl
  | ⟨1, _⟩ => rfl
  | ⟨2, _⟩ => rfl

/-! ## The scale -/

theorem c448 : Ideal.ofBits .f32 0x43E00000#32 = ((448 : ℝ) : EReal) := by
  simp [Ideal.ofBits, Ideal.ieee]
  rw [← EReal.coe_mul]; norm_num

theorem cneg448 : Ideal.ofBits .f32 0xC3E00000#32 = ((-448 : ℝ) : EReal) := by
  simp [Ideal.ofBits, Ideal.ieee]
  rw [← EReal.coe_mul]; norm_num

/-- Multiplying by 448/g and by g/448 gives what dividing by g/448, clipping to ±448 and multiplying by g/448 gives, for every
    number no larger than `g` in magnitude; `g` may be zero or infinite. -/
theorem scaled_eq (y g : EReal) (hy : mag y ≤ g) :
    y * Ideal.div ((448 : ℝ) : EReal) g * Ideal.div g ((448 : ℝ) : EReal)
      = min ((448 : ℝ) : EReal) (max ((-448 : ℝ) : EReal) (Ideal.div y (Ideal.div g ((448 : ℝ) : EReal)))) * Ideal.div g ((448 : ℝ) : EReal) := by
  have h448 : ((448 : ℝ) : EReal) ≠ 0 := by norm_num
  have hg : Ideal.div g ((448 : ℝ) : EReal) = g * ((448⁻¹ : ℝ) : EReal) := by
    unfold Ideal.div; rw [if_neg h448, EReal.coe_inv]
  have hle : y ≤ g := (le_max_left _ _).trans hy
  have hge : -y ≤ g := (le_max_right _ _).trans hy
  rw [hg]
  induction g using EReal.rec with
  | bot =>
    rw [le_bot_iff] at hle hge
    rw [hle, EReal.neg_bot] at hge
    exact absurd hge (by decide)
  | top =>
    rw [EReal.top_mul_coe_of_pos (by norm_num)]
    unfold Ideal.div
    rw [if_neg EReal.top_ne_zero, if_neg EReal.top_ne_zero, EReal.inv_top, mul_zero, mul_zero, zero_mul,
      max_eq_right (by norm_cast), min_eq_right (by norm_cast), zero_mul]
  | coe g =>
    induction y using EReal.rec with
    | bot => rw [EReal.neg_bot, top_le_iff] at hge; exact absurd hge (EReal.coe_ne_top g)
    | top => rw [top_le_iff] at hle; exact absurd hle (EReal.coe_ne_top g)
    | coe y =>
      have hle' : y ≤ g := by exact_mod_cast hle
      have hge' : -y ≤ g := by exact_mod_cast hge
      rw [← EReal.coe_mul]
      by_cases h0 : g = 0
      · have hy0 : y = 0 := by linarith
        rw [h0, hy0]; simp
      · have hpos : 0 < g := lt_of_le_of_ne (by linarith) (Ne.symm h0)
        have e1 : Ideal.div ((448 : ℝ) : EReal) (g : EReal) = ((448 * g⁻¹ : ℝ) : EReal) := by
          unfold Ideal.div; rw [if_neg (by exact_mod_cast h0), ← EReal.coe_inv, ← EReal.coe_mul]
        have hs : g * 448⁻¹ ≠ 0 := mul_ne_zero h0 (by norm_num)
        have e2 : Ideal.div (y : EReal) ((g * 448⁻¹ : ℝ) : EReal) = ((y * (g * 448⁻¹)⁻¹ : ℝ) : EReal) := by
          unfold Ideal.div; rw [if_neg (by exact_mod_cast hs), ← EReal.coe_inv, ← EReal.coe_mul]
        have hq : y * (g * 448⁻¹)⁻¹ = 448 * (y / g) := by field_simp
        have hu : y / g ≤ 1 := (div_le_one hpos).mpr hle'
        have hl : -1 ≤ y / g := by rw [le_div_iff₀ hpos]; linarith
        rw [e1, e2, hq, max_eq_right (EReal.coe_le_coe_iff.mpr (by linarith)), min_eq_right (EReal.coe_le_coe_iff.mpr (by linarith)), ← EReal.coe_mul, ← EReal.coe_mul, ← EReal.coe_mul]
        congr 1
        field_simp

end Cert.AllGather

end
-- ==== Proof.Whole.lean ====
module

public import proofs.«01_k».proof.Proof.Scalars
public import proofs.«01_k».proof.Proof.Finish
public import Idealize.ShloMosaic.Lib.Layout

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-! # The devices' blocks as parts of one product -/

abbrev SX : Shape := ⟨2, ![4096, 4096]⟩
abbrev SW : Shape := ⟨2, ![4096, 8192]⟩

/-! ## What is staged is what was given -/

theorem xstg_eq (m : (ℓ : Loc nD τ sig) → Buf (Elt F) ℓ) (c : Dev nD) : xstg m c = m ((c : Thread nD τ).loc main_arg0) := by
  funext j
  show m ((c : Thread nD τ).loc main_arg0) ((win0_0.blk t0_0).view.emb j) = _
  congr 1
  funext a; apply Fin.ext
  match a with
  | ⟨0, _⟩ => show 0 * 256 + 1 * (j 0).val = (j 0).val; omega
  | ⟨1, _⟩ => show 0 * 4096 + 1 * (j 1).val = (j 1).val; omega

theorem wstg_eq (m : (ℓ : Loc nD τ sig) → Buf (Elt F) ℓ) (c : Dev nD) : wstg m c = m ((c : Thread nD τ).loc main_arg1) := by
  funext j
  show m ((c : Thread nD τ).loc main_arg1) ((win0_1.blk t0_0).view.emb j) = _
  congr 1
  funext a; apply Fin.ext
  match a with
  | ⟨0, _⟩ => show 0 * 4096 + 1 * (j 0).val = (j 0).val; omega
  | ⟨1, _⟩ => show 0 * 512 + 1 * (j 1).val = (j 1).val; omega

theorem quarter_at (m : (ℓ : Loc nD τ sig) → Buf (Elt F) ℓ) (o : Dev nD) (q : Fin 4) (r : Fin 64) (k : Fin 4096) :
    block m o q (ix3 (0 : Fin 1) r k) = xstg m o (ix2 (⟨64 * q.val + r.val, by omega⟩ : Fin 256) k) := by
  unfold block quarterOf
  rw [shapeCast_self]
  refine (shapeCast_addUnit_apply ![64, 4096] _ _ (ix3 (0 : Fin 1) r k)).trans ?_
  show xstg m o _ = xstg m o _
  congr 1
  funext a; apply Fin.ext
  match a with
  | ⟨0, _⟩ => show 64 * q.val + 1 * r.val = 64 * q.val + r.val; omega
  | ⟨1, _⟩ => show 0 + 1 * k.val = k.val; omega

theorem weights_eq (m : (ℓ : Loc nD τ sig) → Buf (Elt F) ℓ) (c : Dev nD) : weights m c = wstg m c := by
  unfold weights k0_pay6
  refine (shapeCast_self _ _).trans ((shapeCast_self _ _).trans ?_)
  funext j
  show wstg m c _ = wstg m c j
  congr 1
  funext a; apply Fin.ext
  match a with
  | ⟨0, _⟩ => show 0 + 1 * (j 0).val = (j 0).val; omega
  | ⟨1, _⟩ => show 0 + 1 * (j 1).val = (j 1).val; omega

/-! ## One product -/

variable (m : (ℓ : Loc nD τ sig) → Buf (Elt Ideal) ℓ) (x : SX.Idx → EReal) (w : SW.Idx → EReal)

/-- Each device holds its rows of `x` and its columns of `w`. -/
def Given : Prop := ∀ c : Dev nD,
  m ((c.tc : Thread nD τ).loc main_arg0) = Layout.block ⟨2, ![256, 4096]⟩ SX 0 16 c x
  ∧ m ((c.tc : Thread nD τ).loc main_arg1) = Layout.block ⟨2, ![4096, 512]⟩ SW 1 16 c w

/-- The product of the whole arrays. -/
def whole : SW.Idx → EReal := fun i => ∑ k : Fin 4096, x (ix2 (i 0) k) * w (ix2 k (i 1))

variable {m x w} (h : Given m x w)
include h

theorem block_at (o : Dev nD) (q : Fin 4) (r : Fin 64) (k : Fin 4096) :
    block m o q (ix3 (0 : Fin 1) r k) = x (ix2 (⟨256 * o.val + 64 * q.val + r.val, by have : o.val < 16 := o.isLt; omega⟩ : Fin 4096) k) := by
  rw [quarter_at, xstg_eq, (h o).1]
  show x _ = x _
  congr 1
  funext a; apply Fin.ext
  match a with
  | ⟨0, _⟩ => show o.val * 256 + (64 * q.val + r.val) = 256 * o.val + 64 * q.val + r.val; omega
  | ⟨1, _⟩ => rfl

theorem weights_at (c : Dev nD) (k : Fin 4096) (l : Fin 512) :
    weights m c (ix2 k l) = w (ix2 k (⟨512 * c.val + l.val, by have : c.val < 16 := c.isLt; omega⟩ : Fin 8192)) := by
  rw [weights_eq, wstg_eq, (h c).2]
  show w _ = w _
  congr 1
  funext a; apply Fin.ext
  match a with
  | ⟨0, _⟩ => rfl
  | ⟨1, _⟩ => show c.val * 512 + l.val = 512 * c.val + l.val; omega

/-- Device `c`'s product is the whole product's columns `512 c` to `512 c + 511`. -/
theorem yAll_at (c : Dev nD) (r : Fin 4096) (l : Fin 512) :
    yAll m c (ix2 r l) = whole x w (ix2 r (⟨512 * c.val + l.val, by have : c.val < 16 := c.isLt; omega⟩ : Fin 8192)) := by
  unfold yAll whole
  have e : rowIn (ix2 r l) = ix2 (⟨r.val % 64, Nat.mod_lt _ (by decide)⟩ : Fin 64) l := by
    funext a
    match a with
    | ⟨0, _⟩ => rfl
    | ⟨1, _⟩ => rfl
  show prodOf (F := Ideal) (block m (rowDev (ix2 r l)) (rowQuarter (ix2 r l))) (weights m c) (rowIn (ix2 r l)) = _
  rw [e, prodOf_at]
  refine Finset.sum_congr rfl fun k _ => ?_
  rw [block_at h, weights_at h]
  congr 2
  funext a; apply Fin.ext
  match a with
  | ⟨0, _⟩ => show 256 * (r.val / 256) + 64 * (r.val % 256 / 64) + r.val % 64 = r.val; omega
  | ⟨1, _⟩ => rfl

/-! ## The largest magnitude -/

omit h in
theorem join_le (a : Option EReal) (p b : EReal) :
    (∀ g ∈ some (peakJoin (F := Ideal) a p), g ≤ b) ↔ (∀ g ∈ a, g ≤ b) ∧ p ≤ b := by
  cases a with
  | none => exact ⟨fun H => ⟨fun _ hg => absurd hg (Option.not_mem_none _), H p rfl⟩, fun H g hg => Option.some.inj hg ▸ H.2⟩
  | some a =>
    have e : max a p ≤ b ↔ a ≤ b ∧ p ≤ b := max_le_iff
    exact ⟨fun H => ⟨fun g hg => Option.some.inj hg ▸ (e.mp (H _ rfl)).1, (e.mp (H _ rfl)).2⟩,
      fun H g hg => Option.some.inj hg ▸ e.mpr ⟨H.1 a rfl, H.2⟩⟩

omit h in
/-- A number bounds the running maximum exactly when it bounds what the maximum started from and every product of the steps. -/
theorem accum_le (c : Dev nD) (b : EReal) (es : List Step) (a : Option EReal) :
    (∀ g ∈ accum (F := Ideal) m c es a, g ≤ b) ↔ (∀ g ∈ a, g ≤ b) ∧ ∀ q r, Step.gemm q r ∈ es → peakOf (F := Ideal) (prod m c q r) ≤ b := by
  induction es generalizing a with
  | nil => exact ⟨fun H => ⟨H, fun _ _ hm => absurd hm List.not_mem_nil⟩, fun H => H.1⟩
  | cons e es ih =>
    cases e with
    | gemm q r =>
      show (∀ g ∈ accum (F := Ideal) m c es (some (peakJoin a (peakOf (prod m c q r)))), g ≤ b) ↔ _
      rw [ih]
      rw [join_le]
      constructor
      · rintro ⟨⟨H1, H2⟩, H3⟩
        refine ⟨H1, fun q' r' hm => ?_⟩
        rcases List.mem_cons.mp hm with he | hm
        · cases he; exact H2
        · exact H3 _ _ hm
      · rintro ⟨H1, H2⟩
        exact ⟨⟨H1, H2 _ _ List.mem_cons_self⟩, fun q' r' hm => H2 _ _ (List.mem_cons_of_mem _ hm)⟩
    | _ =>
      refine (ih a).trans (and_congr_right fun _ => ⟨fun H q r hm => ?_, fun H q r hm => H q r (List.mem_cons_of_mem _ hm)⟩)
      rcases List.mem_cons.mp hm with he | hm
      · cases he
      · exact H q r hm

omit h in
theorem accum_some (c : Dev nD) (es : List Step) (a : Option EReal) (q : Fin 4) (r : Fin 16) (hm : a.isSome ∨ Step.gemm q r ∈ es) :
    (accum (F := Ideal) m c es a).isSome := by
  induction es generalizing a with
  | nil => exact hm.resolve_right List.not_mem_nil
  | cons e es ih =>
    cases e with
    | gemm q' r' => exact ih _ (.inl rfl)
    | _ =>
      refine ih a (hm.imp_right fun hm => ?_)
      rcases List.mem_cons.mp hm with he | hm
      · cases he
      · exact hm

omit h in
theorem peak_le (c : Dev nD) (b : EReal) : peak (F := Ideal) m c ≤ b ↔ ∀ q r, peakOf (F := Ideal) (prod m c q r) ≤ b := by
  obtain ⟨g, hg⟩ := Option.isSome_iff_exists.mp (accum_some (m := m) c steps none 0 0 (.inr (gemm_in_steps 0 0)))
  have key := accum_le (m := m) c b steps none
  unfold peak
  rw [hg] at key ⊢
  show g ≤ b ↔ _
  constructor
  · intro H q r
    exact (key.mp fun g' hg' => by cases hg'; exact H).2 q r (gemm_in_steps q r)
  · intro H
    exact key.mpr ⟨fun _ hg' => absurd hg' (by simp), fun q r _ => H q r⟩ g rfl

/-- A number bounds device `c`'s maximum exactly when it bounds the magnitudes of the device's columns of the whole product. -/
theorem peak_whole (c : Dev nD) (b : EReal) : peak (F := Ideal) m c ≤ b ↔ ∀ (r : Fin 4096) (l : Fin 512),
    mag (whole x w (ix2 r (⟨512 * c.val + l.val, by have : c.val < 16 := c.isLt; omega⟩ : Fin 8192))) ≤ b := by
  rw [peak_le]
  constructor
  · intro H r l
    have e := (peakOf_le _ b).mp (H (rowQuarter (ix2 r l)) (rowDev (ix2 r l) - c)) (rowIn (ix2 r l))
    have e' : prod m c (rowQuarter (ix2 r l)) (rowDev (ix2 r l) - c) (rowIn (ix2 r l)) = yAll m c (ix2 r l) := by
      unfold prod yAll
      rw [show (c + (rowDev (ix2 r l) - c) : Fin 16) = rowDev (ix2 r l) from dev_sub _ _]
    rw [e', yAll_at h] at e
    exact e
  · intro H q r
    rw [peakOf_le]
    intro j
    obtain ⟨a, l, rfl⟩ : ∃ (a : Fin 64) (l : Fin 512), j = ix2 a l := ⟨_, _, eq_ix2 j⟩
    unfold prod
    rw [prodOf_at]
    have hd : ((c + r : Fin 16)).val < 16 := (c + r : Fin 16).isLt
    have e := H (⟨256 * (c + r : Fin 16).val + 64 * q.val + a.val, by omega⟩ : Fin 4096) l
    unfold whole at e
    refine le_of_eq_of_le (congrArg mag (Finset.sum_congr rfl fun k _ => ?_)) e
    rw [block_at h, weights_at h]

/-- Every device gathers the largest magnitude of the whole product. -/
theorem top_whole (c : Dev nD) (b : EReal) : (k0_pay131 (F := Ideal) (gAll m c) : EReal) ≤ b ↔ ∀ i, mag (whole x w i) ≤ b := by
  refine (gathered_le _ b).trans ?_
  have hall : (∀ j : S16x8x128.Idx, LE.le (α := EReal) (gAll m c j) b) ↔ ∀ o : Dev nD, peak (F := Ideal) m o ≤ b := by
    constructor
    · intro H o
      have e := H (ix3 (o - c : Fin 16) (0 : Fin 8) (0 : Fin 128))
      have e' : gAll m c (ix3 (o - c : Fin 16) (0 : Fin 8) (0 : Fin 128)) = peak (F := Ideal) m (c + (o - c : Fin 16)) := rfl
      rwa [e', show (c + (o - c) : Fin 16) = o from dev_sub _ _] at e
    · intro H j
      exact H (c + (⟨(j 0).val, (j 0).isLt⟩ : Fin 16))
  refine hall.trans ?_
  constructor
  · intro H i
    have hc : (i 1).val < 8192 := (i 1).isLt
    have e := (peak_whole h (⟨(i 1).val / 512, by omega⟩ : Fin 16) b).mp (H _) (i 0) (⟨(i 1).val % 512, Nat.mod_lt _ (by decide)⟩ : Fin 512)
    refine le_of_eq_of_le (congrArg (fun i => mag (whole x w i)) ?_) e
    funext a; apply Fin.ext
    match a with
    | ⟨0, _⟩ => rfl
    | ⟨1, _⟩ => show (i 1).val = 512 * ((i 1).val / 512) + (i 1).val % 512; omega
  · intro H o
    exact (peak_whole h o b).mpr fun r l => H _

end Cert.AllGather

end
-- ==== Proof.Value.lean ====
module

public import proofs.«01_k».proof.Proof.Whole
public import proofs.«01_k».proof.Proof.Launch
public import proofs.«01_k».proof.Proof.Gen.ReferenceIdeal.Value

@[expose] public section

set_option maxRecDepth 100000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx
open Idealize.ShloMosaic.Pipeline (Dat)

/-! # What the run leaves is the reference's value -/

/-! ## The output's array -/

section Array
variable (m : (ℓ : Loc nD τ sig) → Buf (Elt F) ℓ) (ρ : Dev nD → PrngReg)

theorem out_emb (t : Fin cfg0.N) (j : S4096x512.Idx) : ((cfg0.win (2 : Fin 3)).blk t).view.emb j = j := by
  obtain rfl : t = t0_0 := Fin.ext (by have e : t.val < 1 := t.isLt; show t.val = 0; omega)
  funext a; apply Fin.ext
  match a with
  | ⟨0, _⟩ => show 0 * 4096 + 1 * (j 0).val = (j 0).val; omega
  | ⟨1, _⟩ => show 0 * 512 + 1 * (j 1).val = (j 1).val; omega

theorem finalA_out (c : Dev nD) : finalA m ρ c (2 : Fin 3) = outFinal m c := by
  refine (dats (F := F) m ρ 0 c).arrAt_eq_of_cover (2 : Fin 3) (outFinal m c) (fun t _ => ?_) fun i => ⟨t0_0, flush0_2 t0_0, ?_⟩
  · funext j
    show outFinal m c j = outFinal m c (((cfg0.win (2 : Fin 3)).blk t).view.emb j)
    rw [out_emb]
  · have e := ((cfg0.win (2 : Fin 3)).blk t0_0).view.emb_mem_set i
    rwa [out_emb] at e

end Array

/-! ## The reference, element by element -/

section Reference
variable (x : SX.Idx → EReal) (w : SW.Idx → EReal)

open Cert.ReferenceIdeal in
/-- The reference's product. -/
def refProd : FVec Ideal SW .f32 :=
  matmul (F := Ideal) (φ₁ := .bf16) (φ₂ := .bf16) dot_S4096x4096_S4096x8192_S4096x8192_1_0_0_1_n_n none x w (constant (F := Ideal) SW .f32 0x00000000#32)

open Cert.ReferenceIdeal Cert.ReferenceIdeal.Facts₀ in
/-- The largest magnitude in it. -/
def refTop : EReal :=
  extractAt ![0, 0, 0]
    (shapeCast Cert.ReferenceIdeal.S1x1x1
      (multiReduction (F := Ideal) .maximumf [1, 2] Cert.ReferenceIdeal.S1 (shapeCast S1x4096x8192 (absf (refProd x w)) shapeCasts_S4096x8192_S1x4096x8192) 0xFF800000#32
        reduces_S1x4096x8192_S1 (.inl rfl) rfl) Cert.ReferenceIdeal.Facts₀.shapeCasts_S1_S1x1x1) Cert.ReferenceIdeal.Facts₀.inpos_S1x1x1_p0_0_0

theorem refProd_eq : refProd x w = whole x w := by
  funext i
  obtain ⟨r, l, rfl⟩ : ∃ (r : Fin 4096) (l : Fin 8192), i = ix2 r l := ⟨_, _, eq_ix2 i⟩
  refine (Ideal.matmul_plain_apply none x w _ r l).trans ?_
  rw [show (constant (F := Ideal) SW .f32 0x00000000#32 (ix2 r l) : EReal) = 0 from Ideal.ofBits_zero_f32, zero_add]
  rfl

theorem refTop_le (b : EReal) : refTop x w ≤ b ↔ ∀ i, mag (whole x w i) ≤ b := by
  unfold refTop extractAt
  refine (top_le _ _ _ (fun k => one_idx k _) b).trans ?_
  refine (cast_le (fun j => mag (refProd x w j)) _ b).trans ?_
  rw [refProd_eq]

/-- The reference's value at an index. -/
theorem ref_at (i : SW.Idx) : Cert.ReferenceIdeal.Value.G2 (F := Ideal) x w i
    = min ((448 : ℝ) : EReal) (max ((-448 : ℝ) : EReal) (Ideal.div (whole x w i) (Ideal.div (refTop x w) ((448 : ℝ) : EReal))))
      * Ideal.div (refTop x w) ((448 : ℝ) : EReal) := by
  rw [← c448, ← cneg448, ← refProd_eq]
  rfl

end Reference

/-! ## The kernel's output is the reference's block -/

/-- `y` brought to the quantiser's range by the peak `g`, and back. -/
def scaled (y g : EReal) : EReal := y * Ideal.div ((448 : ℝ) : EReal) g * Ideal.div g ((448 : ℝ) : EReal)

theorem rescaled_at (p q : EReal) (y : FVec Ideal S4096x512 .f32) (i : S4096x512.Idx) :
    k0_pay1 (F := Ideal) p y (k0_pay135 (F := Ideal) q) i = y i * q * p := rfl

theorem down_eq (g : FVec Ideal S16x8x128 .f32) : k0_pay132 (F := Ideal) g = Ideal.div (k0_pay131 (F := Ideal) g) ((448 : ℝ) : EReal) := by
  rw [← c448]
  unfold k0_pay132
  generalize k0_pay131 (F := Ideal) g = p
  rfl

theorem up_eq (g : FVec Ideal S16x8x128 .f32) : k0_pay133 (F := Ideal) g = Ideal.div ((448 : ℝ) : EReal) (k0_pay131 (F := Ideal) g) := by
  rw [← c448]
  unfold k0_pay133
  generalize k0_pay131 (F := Ideal) g = p
  rfl

/-- The last step at an index, of any gathered peaks and any product. -/
theorem finish_at (g : FVec Ideal S16x8x128 .f32) (y : FVec Ideal S4096x512 .f32) (i : S4096x512.Idx) :
    k0_pay1 (F := Ideal) (k0_pay132 g) (k0_pay134 y) (k0_pay135 (k0_pay133 g)) i = scaled (y i) (k0_pay131 (F := Ideal) g) := by
  have e : k0_pay134 (F := Ideal) y = y := shapeCast_self _ _
  rw [rescaled_at, e, down_eq, up_eq]
  rfl

variable {m : (ℓ : Loc nD τ sig) → Buf (Elt Ideal) ℓ} {x : SX.Idx → EReal} {w : SW.Idx → EReal} (h : Given m x w)
include h

theorem top_eq (c : Dev nD) : k0_pay131 (F := Ideal) (gAll m c) = refTop x w :=
  le_antisymm ((top_whole h c _).mpr ((refTop_le x w _).mp le_rfl)) ((refTop_le x w _).mpr ((top_whole h c _).mp le_rfl))

theorem out_eq (c : Dev nD) : outFinal m c = Layout.block ⟨2, ![4096, 512]⟩ SW 1 16 c (Cert.ReferenceIdeal.Value.G2 (F := Ideal) x w) := by
  funext i
  obtain ⟨r, l, rfl⟩ : ∃ (r : Fin 4096) (l : Fin 512), i = ix2 r l := ⟨_, _, eq_ix2 i⟩
  have hi : (Layout.Tiles.idx (S := ⟨2, ![4096, 512]⟩) (T := SW) (a := 1) (k := 16) (by decide) c (ix2 r l) : SW.Idx)
      = ix2 r (⟨512 * c.val + l.val, by have : c.val < 16 := c.isLt; omega⟩ : Fin 8192) := by
    funext a; apply Fin.ext
    match a with
    | ⟨0, _⟩ => rfl
    | ⟨1, _⟩ => exact congrArg (· + l.val) (Nat.mul_comm c.val 512)
  refine (finish_at (gAll m c) (yAll m c) (ix2 r l)).trans ?_
  rw [Layout.block_apply, hi, ref_at, yAll_at h, top_eq h]
  unfold scaled
  exact scaled_eq _ _ ((refTop_le x w _).mp le_rfl _)

end Cert.AllGather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run's two facts as the frames state them: the arguments of every device are unchanged and every counter is zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.AllGather.finalA_x m ρ c), (h.1 c (1 : Fin 3)).trans (Cert.AllGather.finalA_w m ρ c)⟩, h.2⟩)
    (Cert.AllGather.run_main m ρ)

theorem frame_kernelIdeal : Cert.quiescent_KernelIdeal := fun m ρ _ => frame_any (F := Ideal) m ρ

/-- The two programs' tables of kernel bodies are one table: each row has the same text. -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl

theorem defs_eq : Cert.Kernel.defs (F := Bits) = Cert.KernelIdeal.defs (F := Bits) := by
  unfold Cert.Kernel.defs Cert.KernelIdeal.defs
  rw [defs₀_eq]; rfl

/-- So the run read over the machine's own words is the kernel's. -/
theorem frame_kernel : Cert.quiescent_Kernel := fun m ρ _ => by
  rw [defs_eq]
  exact (θ_run Cert.KernelIdeal.defs _ _).mono (fun _ h => h) (frame_any (F := Bits) m ρ)

/-- Each device's output is its block of the reference's. -/
theorem value_claim : Cert.algebraic_KernelIdeal_ReferenceIdeal := fun m ρ m' ρ' _ hagree =>
  ⟨Cert.ReferenceIdeal.Value.G2 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((Cert.AllGather.finalA_out m ρ c).trans (Cert.AllGather.out_eq hagree c)),
        (h.1 c (0 : Fin 3)).trans (Cert.AllGather.finalA_x m ρ c), (h.1 c (1 : Fin 3)).trans (Cert.AllGather.finalA_w m ρ c)⟩)
      (Cert.AllGather.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, fun m ρ _ => Cert.ReferenceIdeal.Gen.frame m ρ, trivial, value_claim⟩

end Cert.Proof

end
